-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S100000 32) (main_arg2 : FVec F S128x1 .f32) (main_arg3 : FVec F S1 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S_ : Shape := ⟨0, ![]⟩
abbrev S100352x128 : Shape := ⟨2, ![100352, 128]⟩
abbrev S100352 : Shape := ⟨1, ![100352]⟩
abbrev S100352x1 : Shape := ⟨2, ![100352, 1]⟩
abbrev S1x1 : Shape := ⟨2, ![1, 1]⟩
abbrev S1x128 : Shape := ⟨2, ![1, 128]⟩
abbrev S8x128 : Shape := ⟨2, ![8, 128]⟩
abbrev S2048x128 : Shape := ⟨2, ![2048, 128]⟩
abbrev S2048x1 : Shape := ⟨2, ![2048, 1]⟩
abbrev S2048 : Shape := ⟨1, ![2048]⟩
abbrev S1024x128 : Shape := ⟨2, ![1024, 128]⟩
abbrev S1024x1 : Shape := ⟨2, ![1024, 1]⟩

abbrev nBuf : Space → Nat
  | .hbm => 20
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S100352x128, .f32⟩
  | .hbm, ⟨9, _⟩ => ⟨S_, .i32⟩
  | .hbm, ⟨10, _⟩ => ⟨S_, .i32⟩
  | .hbm, ⟨11, _⟩ => ⟨S100352, .i32⟩
  | .hbm, ⟨12, _⟩ => ⟨S100352, .f32⟩
  | .hbm, ⟨13, _⟩ => ⟨S100352x1, .f32⟩
  | .hbm, ⟨14, _⟩ => ⟨S1x1, .f32⟩
  | .hbm, ⟨15, _⟩ => ⟨S1x128, .f32⟩
  | .hbm, ⟨16, _⟩ => ⟨S100352x1, .f32⟩
  | .hbm, ⟨17, _⟩ => ⟨S8x128, .f32⟩
  | .hbm, ⟨18, _⟩ => ⟨S8x128, .f32⟩
  | .hbm, ⟨19, _⟩ => ⟨S1024x128, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S128x1, .f32⟩
  | .local _ .vmem, ⟨5, _⟩ => ⟨S1x1, .f32⟩
  | .local _ .vmem, ⟨6, _⟩ => ⟨S2048x1, .f32⟩
  | .local _ .vmem, ⟨7, _⟩ => ⟨S2048x1, .f32⟩
  | .local _ .vmem, ⟨8, _⟩ => ⟨S8x128, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S8x128, .f32⟩
  | .local _ .vmem, ⟨14, _⟩ => ⟨S8x128, .f32⟩
  | .local _ .vmem, ⟨15, _⟩ => ⟨S2048x128, .f32⟩
  | .local _ .vmem, ⟨16, _⟩ => ⟨S2048x128, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S8x128, .f32⟩
  | .local _ .vmem, ⟨22, _⟩ => ⟨S8x128, .f32⟩
  | .local _ .vmem, ⟨23, _⟩ => ⟨S128x128, .f32⟩
  | .local _ .vmem, ⟨24, _⟩ => ⟨S1x128, .f32⟩
  | .local _ .vmem, ⟨25, _⟩ => ⟨S1024x128, .f32⟩
  | .local _ .vmem, ⟨26, _⟩ => ⟨S1024x128, .f32⟩
  | .local _ .vmem, ⟨27, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_scratch0 : Ref sig .tc := ⟨.vmem, 26, rfl⟩
abbrev cc2_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![49], ![false]⟩

def k2_cond2 (i : grid2.Coords) : BitVec 1 :=
  let arg0 : BitVec 32 := BitVec.ofNat 32 (i 0).val
  let c48_i32 : BitVec 32 := 48#32
  let v345 : BitVec 1 := Scalar.cmpi .eq arg0 c48_i32
  let v346 : BitVec 32 := Scalar.extui v345
  let c0_i32_127 : BitVec 32 := 0#32
  let v347 : BitVec 1 := Scalar.cmpi .ne v346 c0_i32_127
  v347

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== KernelIdeal.lean ====
variable {F : FTy → Type} [FloatOps F] [Named F]
def κ : String → Option EReal := fun
  | "mask" => some ⊥
  | _ => none
-- ==== ReferenceIdeal.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S100000x1 : Shape := ⟨2, ![100000, 1]⟩
abbrev S1x1 : Shape := ⟨2, ![1, 1]⟩
abbrev S1024 : Shape := ⟨1, ![1024]⟩
abbrev S1x1024 : Shape := ⟨2, ![1, 1024]⟩
abbrev S100000x1024 : Shape := ⟨2, ![100000, 1024]⟩
abbrev S_ : Shape := ⟨0, ![]⟩
abbrev S1024x1 : Shape := ⟨2, ![1024, 1]⟩
abbrev S1x128 : Shape := ⟨2, ![1, 128]⟩
abbrev S1024x128 : Shape := ⟨2, ![1024, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S100000x1, .f32⟩
  | .hbm, ⟨7, _⟩ => ⟨S1x1, .f32⟩
  | .hbm, ⟨8, _⟩ => ⟨S100000x1, .f32⟩
  | .hbm, ⟨9, _⟩ => ⟨S100000x1, .f32⟩
  | .hbm, ⟨10, _⟩ => ⟨S100000x1, .i32⟩
  | .hbm, ⟨11, _⟩ => ⟨S1024, .i32⟩
  | .hbm, ⟨12, _⟩ => ⟨S1x1024, .i32⟩
  | .hbm, ⟨13, _⟩ => ⟨S100000x1024, .i32⟩
  | .hbm, ⟨14, _⟩ => ⟨S100000x1024, .i32⟩
  | .hbm, ⟨15, _⟩ => ⟨S100000x1024, .i1⟩
  | .hbm, ⟨16, _⟩ => ⟨S_, .f32⟩
  | .hbm, ⟨17, _⟩ => ⟨S_, .f32⟩
  | .hbm, ⟨18, _⟩ => ⟨S100000x1024, .f32⟩
  | .hbm, ⟨19, _⟩ => ⟨S100000x1024, .f32⟩
  | .hbm, ⟨20, _⟩ => ⟨S100000x1024, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x1, .f32⟩
  | .hbm, ⟨33, _⟩ => ⟨S100000x1, .f32⟩
  | .hbm, ⟨34, _⟩ => ⟨S100000x1, .f32⟩
  | .hbm, ⟨35, _⟩ => ⟨S_, .f32⟩
  | .hbm, ⟨36, _⟩ => ⟨S1024x1, .f32⟩
  | .hbm, ⟨37, _⟩ => ⟨S100000x1, .i32⟩
  | .hbm, ⟨38, _⟩ => ⟨S1024x1, .f32⟩
  | .hbm, ⟨39, _⟩ => ⟨S_, .i32⟩
  | .hbm, ⟨40, _⟩ => ⟨S100000, .i32⟩
  | .hbm, ⟨41, _⟩ => ⟨S100000, .i1⟩
  | .hbm, ⟨42, _⟩ => ⟨S_, .i32⟩
  | .hbm, ⟨43, _⟩ => ⟨S100000, .i32⟩
  | .hbm, ⟨44, _⟩ => ⟨S100000, .i32⟩
  | .hbm, ⟨45, _⟩ => ⟨S100000, .i32⟩
  | .hbm, ⟨46, _⟩ => ⟨S100000x1, .i32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x1, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S1024x128, .f32⟩
  | .hbm, ⟨60, _⟩ => ⟨S100000x1, .i32⟩
  | .hbm, ⟨61, _⟩ => ⟨S1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.KI.Body0.lean ====
/- Kernel region 0: the body of its pallas_call run on whole staging memrefs. The geometry of the windows, the branch
   conditions in closed form over the grid points, and one run of the body per case of its branches: the pieces its
   stores leave in each output. Stated over any contents `W` of the buffers at the region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not: where it isn't
    fetched the block's index has not moved. It holds of any proof data whose array is `V`'s (`hA`) and whose body
    leaves the block in place (`hafter`). -/
theorem before_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it isn't
    fetched the block's index has not moved. It holds of any proof data whose array is `V`'s (`hA`) and whose body
    leaves the block in place (`hafter`). -/
theorem before_1_of {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it isn't
    fetched the block's index has not moved. It holds of any proof data whose array is `V`'s (`hA`) and whose body
    leaves the block in place (`hafter`). -/
theorem before_2_of {c : Dev nD} (dat : Dat τ (Elt F) Unit ℕ (UR sig nD τ) ℕ cfg0 c) (hA : dat.A 2 = V W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it isn't
    fetched the block's index has not moved. It holds of any proof data whose array is `V`'s (`hA`) and whose body
    leaves the block in place (`hafter`). -/
theorem before_3_of {c : Dev nD} (dat : Dat τ (Elt F) Unit ℕ (UR sig nD τ) ℕ cfg0 c) (hA : dat.A 3 = V W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond_0 (i : grid0.Coords) : Prop := (Scalar.cmpi .ne (Scalar.extui (Scalar.cmpi .eq (BitVec.ofNat 32 (i 0).val) 0#32)) 0#32) = 1#1
/-- It holds at the first point only — by arithmetic of the point. -/
theorem hcond_0 : ∀ t : Fin cfg0.N, cond_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond_0, e0]
    word_cmp
   : ∀ t : Fin grid0.N, cond_0 (grid0.coords t) ↔ t.val % 49 = 0)

/-! ## The kernel body on any staging memrefs: a subtype the run finds -/

/-- One staging buffer of output window 4, through which its contents are stated (`View.read_writes_of_cover`: the
    choice does not matter). -/
abbrev VO_4 : View sig .tc .vmem S2048x1 .f32 := (Memref.whole cc0_stg4_0 : Memref sig .tc .vmem S2048x1 .f32).view
/-- One staging buffer of output window 5, through which its contents are stated (`View.read_writes_of_cover`: the
    choice does not matter). -/
abbrev VO_5 : View sig .tc .vmem S8x128 .f32 := (Memref.whole cc0_stg5_0 : Memref sig .tc .vmem S8x128 .f32).view
/-- Each window's current staging memref at point `t`, spelled as the pipeline passes it (`bodyAt0`), and its wholeness. -/
abbrev ms_0 (t : Fin cfg0.N) : Memref sig .tc .vmem S2048x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x1 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x1 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S8x128 .f32 := win0_5.stage (cfg0.slots t 5)
abbrev hs_5 (t : Fin cfg0.N) : (ms_5 t).IsWhole := hstage0_5 ((cfg0.slots t 5).cast nbuf0_5)

set_option maxHeartbeats 1000000 in
/-- Case A (`scf.if` 0 taken: points 0). What the body's stores leave in each buffer it writes, as pieces, the last
    first, with the proof that the body, run on whole staging memrefs that hold the inputs' blocks, keeps the inputs
    and leaves those pieces written. The hypotheses `hc·` decide the branches; a buffer that the case reads before it
    covers it is at the contents the point before left. -/
noncomputable def bodyRun_A (c : Dev nD) (i : grid0.Coords) (arg1 : Memref sig .tc .vmem S2048x128 .f32) (harg1 : arg1.IsWhole) (arg2 : Memref sig .tc .vmem S2048x1 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S2048x1 .f32) (harg5 : arg5.IsWhole) (arg6 : Memref sig .tc .vmem S8x128 .f32) (harg6 : arg6.IsWhole) (hc0 : cond_0 i)
    (x0 : Vec F S2048x128 .f32) (x1 : Vec F S2048x1 .f32) (x2 : Vec F S128x1 .f32) (x3 : Vec F S1x1 .f32) :
    Σ' (L4 : List (View.Piece (Elt F) S2048x1 .f32)), { L5 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0__ka i arg1 harg1 arg2 harg2 arg3 harg3 arg4 harg4 arg5 harg5 arg6 harg6) K } := by
  refine ⟨?_, ?_, fun E K => ?run⟩
  case run =>
    simp only [cc0__ka_eq_skeleton]; unfold cc0__ka_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

set_option maxHeartbeats 1000000 in
/-- Case B (`scf.if` 0 not taken: points 1, 2, … 48: 48 of 49). What the body's stores leave in each buffer it writes,
    as pieces, the last first, with the proof that the body, run on whole staging memrefs that hold the inputs'
    blocks, keeps the inputs and leaves those pieces written. The hypotheses `hc·` decide the branches; a buffer that
    the case reads before it covers it is at the contents the point before left. -/
noncomputable def bodyRun_B (c : Dev nD) (i : grid0.Coords) (arg1 : Memref sig .tc .vmem S2048x128 .f32) (harg1 : arg1.IsWhole) (arg2 : Memref sig .tc .vmem S2048x1 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S2048x1 .f32) (harg5 : arg5.IsWhole) (arg6 : Memref sig .tc .vmem S8x128 .f32) (harg6 : arg6.IsWhole) (hc0 : ¬cond_0 i)
    (x0 : Vec F S2048x128 .f32) (x1 : Vec F S2048x1 .f32) (x2 : Vec F S128x1 .f32) (x3 : Vec F S1x1 .f32) (xo5 : Vec F S8x128 .f32) :
    Σ' (L4 : List (View.Piece (Elt F) S2048x1 .f32)), { L5 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0__ka i arg1 harg1 arg2 harg2 arg3 harg3 arg4 harg4 arg5 harg5 arg6 harg6) K } := by
  refine ⟨?_, ?_, fun E K => ?run⟩
  case run =>
    simp only [cc0__ka_eq_skeleton]; unfold cc0__ka_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

end Cert.KernelIdeal.R0

end
-- ==== Proof.KI.Region0.lean ====
/- Kernel region 0: what its output windows (and the scratch it carries) hold after each grid point, the pipeline's
   proof data over any entry contents `W`, and the body obligation at every point. -/
module

public import proofs.«01_k».proof.Proof.KI.Body0

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- The body's run in case A at point `t`: on the staging memrefs the pipeline passes there. -/
abbrev kernelRun_A (c : Dev nD) (t : Fin cfg0.N) (hc0 : cond_0 (grid0.coords t))
    (x0 : Vec F S2048x128 .f32) (x1 : Vec F S2048x1 .f32) (x2 : Vec F S128x1 .f32) (x3 : Vec F S1x1 .f32) :=
  bodyRun_A (F := F) c (grid0.coords t) (ms_0 t) (hs_0 t) (ms_1 t) (hs_1 t) (ms_2 t) (hs_2 t) (ms_3 t) (hs_3 t) (ms_4 t) (hs_4 t) (ms_5 t) (hs_5 t) hc0 x0 x1 x2 x3

/-- The body's run in case B at point `t`: on the staging memrefs the pipeline passes there. -/
abbrev kernelRun_B (c : Dev nD) (t : Fin cfg0.N) (hc0 : ¬cond_0 (grid0.coords t))
    (x0 : Vec F S2048x128 .f32) (x1 : Vec F S2048x1 .f32) (x2 : Vec F S128x1 .f32) (x3 : Vec F S1x1 .f32) :=
  bodyRun_B (F := F) c (grid0.coords t) (ms_0 t) (hs_0 t) (ms_1 t) (hs_1 t) (ms_2 t) (hs_2 t) (ms_3 t) (hs_3 t) (ms_4 t) (hs_4 t) (ms_5 t) (hs_5 t) hc0 x0 x1 x2 x3

/-- Case A's pieces for output 4 tile its block (1 store of `S2048x1`), so they cover it. -/
theorem cover_A_4 (c : Dev nD) (t : Fin cfg0.N) (hc0 : cond_0 (grid0.coords t))
    (x0 : Vec F S2048x128 .f32) (x1 : Vec F S2048x1 .f32) (x2 : Vec F S128x1 .f32) (x3 : Vec F S1x1 .f32) (y : S2048x1.Idx) :
    ∃ pc ∈ (kernelRun_A c t hc0 x0 x1 x2 x3).1, y ∈ pc.1.set :=
  View.cover_of_tiledL (kernelRun_A c t hc0 x0 x1 x2 x3).1 S2048x1.size (by sl_kernel_rfl) y

/-- What case A leaves in output 4's staging buffer: its pieces read back over anything. -/
def out_A_4 (c : Dev nD) (t : Fin cfg0.N) (hc0 : cond_0 (grid0.coords t))
    (x0 : Vec F S2048x128 .f32) (x1 : Vec F S2048x1 .f32) (x2 : Vec F S128x1 .f32) (x3 : Vec F S1x1 .f32) : Vec F S2048x1 .f32 :=
  VO_4.read (Elt F) (VO_4.writes (Elt F) VO_4.junk (kernelRun_A c t hc0 x0 x1 x2 x3).1)

/-- Case A's pieces for output 5 are of several sizes (9 stores of `S1x128`, `S8x128`): cut into blocks of `![1, 128]`
    they tile its block, so they cover it. -/
theorem cover_A_5 (c : Dev nD) (t : Fin cfg0.N) (hc0 : cond_0 (grid0.coords t))
    (x0 : Vec F S2048x128 .f32) (x1 : Vec F S2048x1 .f32) (x2 : Vec F S128x1 .f32) (x3 : Vec F S1x1 .f32) (y : S8x128.Idx) :
    ∃ pc ∈ (kernelRun_A c t hc0 x0 x1 x2 x3).2.1, y ∈ pc.1.set :=
  View.cover_of_tiledBy (kernelRun_A c t hc0 x0 x1 x2 x3).2.1 ![1, 128] (by sl_kernel_rfl) y

/-- What case A leaves in output 5's staging buffer: its pieces read back over anything. -/
def out_A_5 (c : Dev nD) (t : Fin cfg0.N) (hc0 : cond_0 (grid0.coords t))
    (x0 : Vec F S2048x128 .f32) (x1 : Vec F S2048x1 .f32) (x2 : Vec F S128x1 .f32) (x3 : Vec F S1x1 .f32) : Vec F S8x128 .f32 :=
  VO_5.read (Elt F) (VO_5.writes (Elt F) VO_5.junk (kernelRun_A c t hc0 x0 x1 x2 x3).2.1)

/-- Case B's pieces for output 4 tile its block (1 store of `S2048x1`), so they cover it. -/
theorem cover_B_4 (c : Dev nD) (t : Fin cfg0.N) (hc0 : ¬cond_0 (grid0.coords t))
    (x0 : Vec F S2048x128 .f32) (x1 : Vec F S2048x1 .f32) (x2 : Vec F S128x1 .f32) (x3 : Vec F S1x1 .f32) (xo5 : Vec F S8x128 .f32) (y : S2048x1.Idx) :
    ∃ pc ∈ (kernelRun_B c t hc0 x0 x1 x2 x3 xo5).1, y ∈ pc.1.set :=
  View.cover_of_tiledL (kernelRun_B c t hc0 x0 x1 x2 x3 xo5).1 S2048x1.size (by sl_kernel_rfl) y

/-- What case B leaves in output 4's staging buffer: its pieces read back over anything. -/
def out_B_4 (c : Dev nD) (t : Fin cfg0.N) (hc0 : ¬cond_0 (grid0.coords t))
    (x0 : Vec F S2048x128 .f32) (x1 : Vec F S2048x1 .f32) (x2 : Vec F S128x1 .f32) (x3 : Vec F S1x1 .f32) (xo5 : Vec F S8x128 .f32) : Vec F S2048x1 .f32 :=
  VO_4.read (Elt F) (VO_4.writes (Elt F) VO_4.junk (kernelRun_B c t hc0 x0 x1 x2 x3 xo5).1)

/-- Case B's pieces for output 5 tile its block (8 stores of `S1x128`), so they cover it. -/
theorem cover_B_5 (c : Dev nD) (t : Fin cfg0.N) (hc0 : ¬cond_0 (grid0.coords t))
    (x0 : Vec F S2048x128 .f32) (x1 : Vec F S2048x1 .f32) (x2 : Vec F S128x1 .f32) (x3 : Vec F S1x1 .f32) (xo5 : Vec F S8x128 .f32) (y : S8x128.Idx) :
    ∃ pc ∈ (kernelRun_B c t hc0 x0 x1 x2 x3 xo5).2.1, y ∈ pc.1.set :=
  View.cover_of_tiledL (kernelRun_B c t hc0 x0 x1 x2 x3 xo5).2.1 S1x128.size (by sl_kernel_rfl) y

/-- What case B leaves in output 5's staging buffer: its pieces read back over anything. -/
def out_B_5 (c : Dev nD) (t : Fin cfg0.N) (hc0 : ¬cond_0 (grid0.coords t))
    (x0 : Vec F S2048x128 .f32) (x1 : Vec F S2048x1 .f32) (x2 : Vec F S128x1 .f32) (x3 : Vec F S1x1 .f32) (xo5 : Vec F S8x128 .f32) : Vec F S8x128 .f32 :=
  VO_5.read (Elt F) (VO_5.writes (Elt F) VO_5.junk (kernelRun_B c t hc0 x0 x1 x2 x3 xo5).2.1)

/-! ## What the outputs hold after each point -/

/-- What the outputs' staging buffers hold after the body at position `n` (a tuple, in window order): those of the
    case that position is in, run on the point's blocks, a buffer that the case reads before it covers it at what this
    leaves at `n - 1`. -/
def outsAt (c : Dev nD) : (n : ℕ) → n < cfg0.N → Vec F S2048x1 .f32 × Vec F S8x128 .f32
  | 0, hn => (out_A_4 c ⟨0, hn⟩ ((hcond_0 ⟨0, hn⟩).mpr (Nat.zero_mod _)) (iblk W c 0 ⟨0, hn⟩) (iblk W c 1 ⟨0, hn⟩) (iblk W c 2 ⟨0, hn⟩) (iblk W c 3 ⟨0, hn⟩), out_A_5 c ⟨0, hn⟩ ((hcond_0 ⟨0, hn⟩).mpr (Nat.zero_mod _)) (iblk W c 0 ⟨0, hn⟩) (iblk W c 1 ⟨0, hn⟩) (iblk W c 2 ⟨0, hn⟩) (iblk W c 3 ⟨0, hn⟩))
  | n + 1, hn =>
    if h0 : (n + 1) % 49 = 0 then
      (out_A_4 c ⟨n + 1, hn⟩ ((hcond_0 ⟨n + 1, hn⟩).mpr h0) (iblk W c 0 ⟨n + 1, hn⟩) (iblk W c 1 ⟨n + 1, hn⟩) (iblk W c 2 ⟨n + 1, hn⟩) (iblk W c 3 ⟨n + 1, hn⟩), out_A_5 c ⟨n + 1, hn⟩ ((hcond_0 ⟨n + 1, hn⟩).mpr h0) (iblk W c 0 ⟨n + 1, hn⟩) (iblk W c 1 ⟨n + 1, hn⟩) (iblk W c 2 ⟨n + 1, hn⟩) (iblk W c 3 ⟨n + 1, hn⟩))
    else
      (out_B_4 c ⟨n + 1, hn⟩ (fun h => h0 ((hcond_0 ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2, out_B_5 c ⟨n + 1, hn⟩ (fun h => h0 ((hcond_0 ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- `outsAt` at a point of case A: that case's contents. -/
theorem outsAt_A (c : Dev nD) (t : Fin cfg0.N) (h0 : t.val % 49 = 0) :
    outsAt W c t.val t.isLt = (out_A_4 c t ((hcond_0 t).mpr h0) (iblk W c 0 t) (iblk W c 1 t) (iblk W c 2 t) (iblk W c 3 t), out_A_5 c t ((hcond_0 t).mpr h0) (iblk W c 0 t) (iblk W c 1 t) (iblk W c 2 t) (iblk W c 3 t)) := by
  obtain ⟨n, hn⟩ := t
  cases n with
  | zero => exact rfl
  | succ n => exact (dif_pos h0).trans rfl

/-- `outsAt` at a point of case B: that case's contents, over what the point before left. -/
theorem outsAt_B (c : Dev nD) (t : Fin cfg0.N) (h0 : ¬t.val % 49 = 0) :
    outsAt W c t.val t.isLt = (out_B_4 c t (fun h => h0 ((hcond_0 t).mp h)) (iblk W c 0 t) (iblk W c 1 t) (iblk W c 2 t) (iblk W c 3 t) (outsAt W c (t.val - 1) (Nat.lt_of_le_of_lt (Nat.sub_le _ _) t.isLt)).2, out_B_5 c t (fun h => h0 ((hcond_0 t).mp h)) (iblk W c 0 t) (iblk W c 1 t) (iblk W c 2 t) (iblk W c 3 t) (outsAt W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at point `t`
    each input's buffer at its block and the outputs' at `outsAt`; the region's invariant; nothing owed; full shares.
    -/
def dats (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
    | ⟨5, _⟩ => (outsAt W c t.val t.isLt).2
  Φ _ := Pipeline.ΦA spec0 c
  q _ := fullShare
  owed _ := 0

/-- The proof data's arrays are the contents the region is entered with. -/
theorem A_eq (c : Dev nD) (w : Fin cfg0.W) : (dats W c).A w = V W c (Pipeline.arrRef spec0 w) := by
  dsimp only [dats]

/-- What the body leaves, window by window. -/
theorem after_0 (c : Dev nD) (t : Fin cfg0.N) : (dats W c).after 0 t = iblk W c 0 t := by dsimp only [dats]
theorem after_1 (c : Dev nD) (t : Fin cfg0.N) : (dats W c).after 1 t = iblk W c 1 t := by dsimp only [dats]
theorem after_2 (c : Dev nD) (t : Fin cfg0.N) : (dats W c).after 2 t = iblk W c 2 t := by dsimp only [dats]
theorem after_3 (c : Dev nD) (t : Fin cfg0.N) : (dats W c).after 3 t = iblk W c 3 t := by dsimp only [dats]
theorem after_4 (c : Dev nD) (t : Fin cfg0.N) : (dats W c).after 4 t = (outsAt W c t.val t.isLt).1 := by dsimp only [dats]
theorem after_5 (c : Dev nD) (t : Fin cfg0.N) : (dats W c).after 5 t = (outsAt W c t.val t.isLt).2 := by dsimp only [dats]

/-- Each input's current staging buffer holds its block at every point, fetched there or not (`beforeK_W_of`). -/
theorem before_0 (c : Dev nD) (t : Fin cfg0.N) (d) : (dats W c).before 0 t d = iblk W c 0 t :=
  before_0_of W (dats W c) (A_eq W c 0) (after_0 W c) t d
theorem before_1 (c : Dev nD) (t : Fin cfg0.N) (d) : (dats W c).before 1 t d = iblk W c 1 t :=
  before_1_of W (dats W c) (A_eq W c 1) (after_1 W c) t d
theorem before_2 (c : Dev nD) (t : Fin cfg0.N) (d) : (dats W c).before 2 t d = iblk W c 2 t :=
  before_2_of W (dats W c) (A_eq W c 2) (after_2 W c) t d
theorem before_3 (c : Dev nD) (t : Fin cfg0.N) (d) : (dats W c).before 3 t d = iblk W c 3 t :=
  before_3_of W (dats W c) (A_eq W c 3) (after_3 W c) t d
/-- At a point of case B output 5's current staging buffer holds what the body left at the point before: the point is
    not the first and the buffer was not written back between. -/
theorem before_5_B (c : Dev nD) (t : Fin cfg0.N) (h0 : ¬t.val % 49 = 0) (d) :
    (dats W c).before 5 t d = (outsAt W c (t.val - 1) (Nat.lt_of_le_of_lt (Nat.sub_le _ _) t.isLt)).2 := by
  have hN : t.val < 49 := lt_of_lt_of_eq t.isLt (show cfg0.N = 49 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats W c).Φ t.castSucc ∗ (dats W c).owesAt () t.castSucc
    ∗ (∃ d, owns (c : Thread nD τ) (ms_0 t) fullShare ((dats W c).before 0 t d))
    ∗ (∃ d, owns (c : Thread nD τ) (ms_1 t) fullShare ((dats W c).before 1 t d))
    ∗ (∃ d, owns (c : Thread nD τ) (ms_2 t) fullShare ((dats W c).before 2 t d))
    ∗ (∃ d, owns (c : Thread nD τ) (ms_3 t) fullShare ((dats W c).before 3 t d))
    ∗ (∃ d, owns (c : Thread nD τ) (ms_4 t) fullShare ((dats W c).before 4 t d))
    ∗ (∃ d, owns (c : Thread nD τ) (ms_5 t) fullShare ((dats W c).before 5 t d)))

/-- and what it returns. -/
def bodyPost (c : Dev nD) (t : Fin cfg0.N) : sProp 𝕄 :=
  iprop((dats W c).Φ t.succ ∗ (dats W c).owesAt () t.succ
    ∗ owns (c : Thread nD τ) (ms_0 t) fullShare ((dats W c).after 0 t)
    ∗ owns (c : Thread nD τ) (ms_1 t) fullShare ((dats W c).after 1 t)
    ∗ owns (c : Thread nD τ) (ms_2 t) fullShare ((dats W c).after 2 t)
    ∗ owns (c : Thread nD τ) (ms_3 t) fullShare ((dats W c).after 3 t)
    ∗ owns (c : Thread nD τ) (ms_4 t) fullShare ((dats W c).after 4 t)
    ∗ owns (c : Thread nD τ) (ms_5 t) fullShare ((dats W c).after 5 t))

set_option maxHeartbeats 800000 in
/-- The body at any point: the inputs' memrefs hold their blocks, the point is in one of the cases, and that case's
    run applies; the invariant passes through unread. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3]
  rw [show (dats W c).Φ t.succ = (dats W c).Φ t.castSucc from rfl,
    show (dats W c).owesAt () t.succ = (dats W c).owesAt () t.castSucc from rfl,
    after_0, after_1, after_2, after_3, after_4, after_5]
  have hN : t.val < 49 := lt_of_lt_of_eq t.isLt (show cfg0.N = 49 from N_0)
  by_cases h0 : t.val % 49 = 0
  · rw [outsAt_A W c t h0]
    unfold out_A_4 out_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun_A c t ((hcond_0 t).mpr h0) (iblk W c 0 t) (iblk W c 1 t) (iblk W c 2 t) (iblk W c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _)
    unfold owns; iexists _; isplitr
    swap; · iexact H5
    ipureintro; exact View.read_writes_of_cover _ _ _ _ _ (cover_A_5 c _ _ _ _ _ _)
  · rw [outsAt_B W c t h0]
    simp only [before_5_B W c t h0]
    unfold out_B_4 out_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun_B c t (fun h => h0 ((hcond_0 t).mp h)) (iblk W c 0 t) (iblk W c 1 t) (iblk W c 2 t) (iblk W c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_4 c _ _ _ _ _ _ _)
    unfold owns; iexists _; isplitr
    swap; · iexact H5
    ipureintro; exact View.read_writes_of_cover _ _ _ _ _ (cover_B_5 c _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point: the triple above, restated. -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

end Cert.KernelIdeal.R0

end
-- ==== Proof.KI.Body1.lean ====
/- Kernel region 1: the body of its pallas_call run on whole staging memrefs. The geometry of the windows, the branch
   conditions in closed form over the grid points, and one run of the body per case of its branches: the pieces its
   stores leave in each output. Stated over any contents `W` of the buffers at the region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not: where it isn't
    fetched the block's index has not moved. It holds of any proof data whose array is `V`'s (`hA`) and whose body
    leaves the block in place (`hafter`). -/
theorem before_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it isn't
    fetched the block's index has not moved. It holds of any proof data whose array is `V`'s (`hA`) and whose body
    leaves the block in place (`hafter`). -/
theorem before_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it isn't
    fetched the block's index has not moved. It holds of any proof data whose array is `V`'s (`hA`) and whose body
    leaves the block in place (`hafter`). -/
theorem before_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond_0 (i : grid1.Coords) : Prop := (Scalar.cmpi .ne (Scalar.extui (Scalar.cmpi .eq (BitVec.ofNat 32 (i 0).val) 0#32)) 0#32) = 1#1
/-- It holds at the first point only — by arithmetic of the point. -/
theorem hcond_0 : ∀ t : Fin cfg1.N, cond_0 (grid1.coords t) ↔ t.val % 49 = 0 :=
  (fun t => by
    have ht : t.val < 49 := Nat.lt_of_lt_of_eq t.isLt N_1
    have e0 : (grid1.coords t 0).val = t.val / 1 % 49 := Pipeline.Grid.coords_val t 0 (by decide) rfl
    simp only [cond_0, e0]
    word_cmp
   : ∀ t : Fin grid1.N, cond_0 (grid1.coords t) ↔ t.val % 49 = 0)

/-! ## The kernel body on any staging memrefs: a subtype the run finds -/

/-- One staging buffer of output window 3, through which its contents are stated (`View.read_writes_of_cover`: the
    choice does not matter). -/
abbrev VO_3 : View sig .tc .vmem S8x128 .f32 := (Memref.whole cc1_stg3_0 : Memref sig .tc .vmem S8x128 .f32).view
/-- Each window's current staging memref at point `t`, spelled as the pipeline passes it (`bodyAt1`), and its wholeness. -/
abbrev ms_0 (t : Fin cfg1.N) : Memref sig .tc .vmem S2048x1 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x1 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S8x128 .f32 := win1_3.stage (cfg1.slots t 3)
abbrev hs_3 (t : Fin cfg1.N) : (ms_3 t).IsWhole := hstage1_3 ((cfg1.slots t 3).cast nbuf1_3)

set_option maxHeartbeats 1000000 in
/-- Case A (`scf.if` 0 taken: points 0). What the body's stores leave in each buffer it writes, as pieces, the last
    first, with the proof that the body, run on whole staging memrefs that hold the inputs' blocks, keeps the inputs
    and leaves those pieces written. The hypotheses `hc·` decide the branches; a buffer that the case reads before it
    covers it is at the contents the point before left. -/
noncomputable def bodyRun_A (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S8x128 .f32) (harg3 : arg3.IsWhole) (arg4 : Memref sig .tc .vmem S8x128 .f32) (harg4 : arg4.IsWhole) (hc0 : cond_0 i)
    (x0 : Vec F S2048x1 .f32) (x1 : Vec F S2048x1 .f32) (x2 : Vec F S8x128 .f32) :
    { L3 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__kb i arg1 harg1 arg2 harg2 arg3 harg3 arg4 harg4) K } := by
  refine ⟨?_, fun E K => ?run⟩
  case run =>
    simp only [cc1__kb_eq_skeleton]; unfold cc1__kb_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- Case B (`scf.if` 0 not taken: points 1, 2, … 48: 48 of 49). What the body's stores leave in each buffer it writes,
    as pieces, the last first, with the proof that the body, run on whole staging memrefs that hold the inputs'
    blocks, keeps the inputs and leaves those pieces written. The hypotheses `hc·` decide the branches; a buffer that
    the case reads before it covers it is at the contents the point before left. -/
noncomputable def bodyRun_B (c : Dev nD) (i : grid1.Coords) (arg1 : Memref sig .tc .vmem S2048x1 .f32) (harg1 : arg1.IsWhole) (arg2 : Memref sig .tc .vmem S2048x1 .f32) (harg2 : arg2.IsWhole) (arg3 : Memref sig .tc .vmem S8x128 .f32) (harg3 : arg3.IsWhole) (arg4 : Memref sig .tc .vmem S8x128 .f32) (harg4 : arg4.IsWhole) (hc0 : ¬cond_0 i)
    (x0 : Vec F S2048x1 .f32) (x1 : Vec F S2048x1 .f32) (x2 : Vec F S8x128 .f32) (xo3 : Vec F S8x128 .f32) :
    { L3 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__kb i arg1 harg1 arg2 harg2 arg3 harg3 arg4 harg4) K } := by
  refine ⟨?_, fun E K => ?run⟩
  case run =>
    simp only [cc1__kb_eq_skeleton]; unfold cc1__kb_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.R1

end
-- ==== Proof.KI.Region1.lean ====
/- Kernel region 1: what its output windows (and the scratch it carries) hold after each grid point, the pipeline's
   proof data over any entry contents `W`, and the body obligation at every point. -/
module

public import proofs.«01_k».proof.Proof.KI.Body1

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- The body's run in case A at point `t`: on the staging memrefs the pipeline passes there. -/
abbrev kernelRun_A (c : Dev nD) (t : Fin cfg1.N) (hc0 : cond_0 (grid1.coords t))
    (x0 : Vec F S2048x1 .f32) (x1 : Vec F S2048x1 .f32) (x2 : Vec F S8x128 .f32) :=
  bodyRun_A (F := F) c (grid1.coords t) (ms_0 t) (hs_0 t) (ms_1 t) (hs_1 t) (ms_2 t) (hs_2 t) (ms_3 t) (hs_3 t) hc0 x0 x1 x2

/-- The body's run in case B at point `t`: on the staging memrefs the pipeline passes there. -/
abbrev kernelRun_B (c : Dev nD) (t : Fin cfg1.N) (hc0 : ¬cond_0 (grid1.coords t))
    (x0 : Vec F S2048x1 .f32) (x1 : Vec F S2048x1 .f32) (x2 : Vec F S8x128 .f32) :=
  bodyRun_B (F := F) c (grid1.coords t) (ms_0 t) (hs_0 t) (ms_1 t) (hs_1 t) (ms_2 t) (hs_2 t) (ms_3 t) (hs_3 t) hc0 x0 x1 x2

/-- Case A's pieces for output 3 are of several sizes (9 stores of `S1x128`, `S8x128`): cut into blocks of `![1, 128]`
    they tile its block, so they cover it. -/
theorem cover_A_3 (c : Dev nD) (t : Fin cfg1.N) (hc0 : cond_0 (grid1.coords t))
    (x0 : Vec F S2048x1 .f32) (x1 : Vec F S2048x1 .f32) (x2 : Vec F S8x128 .f32) (y : S8x128.Idx) :
    ∃ pc ∈ (kernelRun_A c t hc0 x0 x1 x2).1, y ∈ pc.1.set :=
  View.cover_of_tiledBy (kernelRun_A c t hc0 x0 x1 x2).1 ![1, 128] (by sl_kernel_rfl) y

/-- What case A leaves in output 3's staging buffer: its pieces read back over anything. -/
def out_A_3 (c : Dev nD) (t : Fin cfg1.N) (hc0 : cond_0 (grid1.coords t))
    (x0 : Vec F S2048x1 .f32) (x1 : Vec F S2048x1 .f32) (x2 : Vec F S8x128 .f32) : Vec F S8x128 .f32 :=
  VO_3.read (Elt F) (VO_3.writes (Elt F) VO_3.junk (kernelRun_A c t hc0 x0 x1 x2).1)

/-- Case B's pieces for output 3 tile its block (8 stores of `S1x128`), so they cover it. -/
theorem cover_B_3 (c : Dev nD) (t : Fin cfg1.N) (hc0 : ¬cond_0 (grid1.coords t))
    (x0 : Vec F S2048x1 .f32) (x1 : Vec F S2048x1 .f32) (x2 : Vec F S8x128 .f32) (xo3 : Vec F S8x128 .f32) (y : S8x128.Idx) :
    ∃ pc ∈ (kernelRun_B c t hc0 x0 x1 x2 xo3).1, y ∈ pc.1.set :=
  View.cover_of_tiledL (kernelRun_B c t hc0 x0 x1 x2 xo3).1 S1x128.size (by sl_kernel_rfl) y

/-- What case B leaves in output 3's staging buffer: its pieces read back over anything. -/
def out_B_3 (c : Dev nD) (t : Fin cfg1.N) (hc0 : ¬cond_0 (grid1.coords t))
    (x0 : Vec F S2048x1 .f32) (x1 : Vec F S2048x1 .f32) (x2 : Vec F S8x128 .f32) (xo3 : Vec F S8x128 .f32) : Vec F S8x128 .f32 :=
  VO_3.read (Elt F) (VO_3.writes (Elt F) VO_3.junk (kernelRun_B c t hc0 x0 x1 x2 xo3).1)

/-! ## What the outputs hold after each point -/

/-- What the outputs' staging buffers hold after the body at position `n`: those of the case that position is in, run
    on the point's blocks, a buffer that the case reads before it covers it at what this leaves at `n - 1`. -/
def outsAt (c : Dev nD) : (n : ℕ) → n < cfg1.N → Vec F S8x128 .f32
  | 0, hn => out_A_3 c ⟨0, hn⟩ ((hcond_0 ⟨0, hn⟩).mpr (Nat.zero_mod _)) (iblk W c 0 ⟨0, hn⟩) (iblk W c 1 ⟨0, hn⟩) (iblk W c 2 ⟨0, hn⟩)
  | n + 1, hn =>
    if h0 : (n + 1) % 49 = 0 then
      out_A_3 c ⟨n + 1, hn⟩ ((hcond_0 ⟨n + 1, hn⟩).mpr h0) (iblk W c 0 ⟨n + 1, hn⟩) (iblk W c 1 ⟨n + 1, hn⟩) (iblk W c 2 ⟨n + 1, hn⟩)
    else
      out_B_3 c ⟨n + 1, hn⟩ (fun h => h0 ((hcond_0 ⟨n + 1, hn⟩).mp h)) (iblk W c 0 ⟨n + 1, hn⟩) (iblk W c 1 ⟨n + 1, hn⟩) (iblk W c 2 ⟨n + 1, hn⟩) (outsAt c n (Nat.lt_of_succ_lt hn))

/-- `outsAt` at a point of case A: that case's contents. -/
theorem outsAt_A (c : Dev nD) (t : Fin cfg1.N) (h0 : t.val % 49 = 0) :
    outsAt W c t.val t.isLt = out_A_3 c t ((hcond_0 t).mpr h0) (iblk W c 0 t) (iblk W c 1 t) (iblk W c 2 t) := by
  obtain ⟨n, hn⟩ := t
  cases n with
  | zero => exact rfl
  | succ n => exact (dif_pos h0).trans rfl

/-- `outsAt` at a point of case B: that case's contents, over what the point before left. -/
theorem outsAt_B (c : Dev nD) (t : Fin cfg1.N) (h0 : ¬t.val % 49 = 0) :
    outsAt W c t.val t.isLt = out_B_3 c t (fun h => h0 ((hcond_0 t).mp h)) (iblk W c 0 t) (iblk W c 1 t) (iblk W c 2 t) (outsAt W c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at point `t`
    each input's buffer at its block and the outputs' at `outsAt`; the region's invariant; nothing owed; full shares.
    -/
def dats (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => (outsAt W c t.val t.isLt)
  Φ _ := Pipeline.ΦA spec1 c
  q _ := fullShare
  owed _ := 0

/-- The proof data's arrays are the contents the region is entered with. -/
theorem A_eq (c : Dev nD) (w : Fin cfg1.W) : (dats W c).A w = V W c (Pipeline.arrRef spec1 w) := by
  dsimp only [dats]

/-- What the body leaves, window by window. -/
theorem after_0 (c : Dev nD) (t : Fin cfg1.N) : (dats W c).after 0 t = iblk W c 0 t := by dsimp only [dats]
theorem after_1 (c : Dev nD) (t : Fin cfg1.N) : (dats W c).after 1 t = iblk W c 1 t := by dsimp only [dats]
theorem after_2 (c : Dev nD) (t : Fin cfg1.N) : (dats W c).after 2 t = iblk W c 2 t := by dsimp only [dats]
theorem after_3 (c : Dev nD) (t : Fin cfg1.N) : (dats W c).after 3 t = (outsAt W c t.val t.isLt) := by dsimp only [dats]

/-- Each input's current staging buffer holds its block at every point, fetched there or not (`beforeK_W_of`). -/
theorem before_0 (c : Dev nD) (t : Fin cfg1.N) (d) : (dats W c).before 0 t d = iblk W c 0 t :=
  before_0_of W (dats W c) (A_eq W c 0) (after_0 W c) t d
theorem before_1 (c : Dev nD) (t : Fin cfg1.N) (d) : (dats W c).before 1 t d = iblk W c 1 t :=
  before_1_of W (dats W c) (A_eq W c 1) (after_1 W c) t d
theorem before_2 (c : Dev nD) (t : Fin cfg1.N) (d) : (dats W c).before 2 t d = iblk W c 2 t :=
  before_2_of W (dats W c) (A_eq W c 2) (after_2 W c) t d
/-- At a point of case B output 3's current staging buffer holds what the body left at the point before: the point is
    not the first and the buffer was not written back between. -/
theorem before_3_B (c : Dev nD) (t : Fin cfg1.N) (h0 : ¬t.val % 49 = 0) (d) :
    (dats W c).before 3 t d = (outsAt W c (t.val - 1) (Nat.lt_of_le_of_lt (Nat.sub_le _ _) t.isLt)) := by
  have hN : t.val < 49 := lt_of_lt_of_eq t.isLt (show cfg1.N = 49 from N_1)
  rw [Dat.before_out_kept _ 3 rfl t (by omega) (Bool.eq_false_iff.mpr fun h => by have := (flush1_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg1.N) : sProp 𝕄 :=
  iprop((dats W c).Φ t.castSucc ∗ (dats W c).owesAt () t.castSucc
    ∗ (∃ d, owns (c : Thread nD τ) (ms_0 t) fullShare ((dats W c).before 0 t d))
    ∗ (∃ d, owns (c : Thread nD τ) (ms_1 t) fullShare ((dats W c).before 1 t d))
    ∗ (∃ d, owns (c : Thread nD τ) (ms_2 t) fullShare ((dats W c).before 2 t d))
    ∗ (∃ d, owns (c : Thread nD τ) (ms_3 t) fullShare ((dats W c).before 3 t d)))

/-- and what it returns. -/
def bodyPost (c : Dev nD) (t : Fin cfg1.N) : sProp 𝕄 :=
  iprop((dats W c).Φ t.succ ∗ (dats W c).owesAt () t.succ
    ∗ owns (c : Thread nD τ) (ms_0 t) fullShare ((dats W c).after 0 t)
    ∗ owns (c : Thread nD τ) (ms_1 t) fullShare ((dats W c).after 1 t)
    ∗ owns (c : Thread nD τ) (ms_2 t) fullShare ((dats W c).after 2 t)
    ∗ owns (c : Thread nD τ) (ms_3 t) fullShare ((dats W c).after 3 t))

set_option maxHeartbeats 800000 in
/-- The body at any point: the inputs' memrefs hold their blocks, the point is in one of the cases, and that case's
    run applies; the invariant passes through unread. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2]
  rw [show (dats W c).Φ t.succ = (dats W c).Φ t.castSucc from rfl,
    show (dats W c).owesAt () t.succ = (dats W c).owesAt () t.castSucc from rfl,
    after_0, after_1, after_2, after_3]
  have hN : t.val < 49 := lt_of_lt_of_eq t.isLt (show cfg1.N = 49 from N_1)
  by_cases h0 : t.val % 49 = 0
  · rw [outsAt_A W c t h0]
    unfold out_A_3
    iintro ⟨HΦ, Ho, ⟨%d0, H0⟩, ⟨%d1, H1⟩, ⟨%d2, H2⟩, ⟨%d3, H3⟩⟩
    iapply ((kernelRun_A c t ((hcond_0 t).mpr h0) (iblk W c 0 t) (iblk W c 1 t) (iblk W c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_A_3 c _ _ _ _ _)
  · rw [outsAt_B W c t h0]
    simp only [before_3_B W c t h0]
    unfold out_B_3
    iintro ⟨HΦ, Ho, ⟨%d0, H0⟩, ⟨%d1, H1⟩, ⟨%d2, H2⟩, ⟨%d3, H3⟩⟩
    iapply ((kernelRun_B c t (fun h => h0 ((hcond_0 t).mp h)) (iblk W c 0 t) (iblk W c 1 t) (iblk W c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_B_3 c _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body's obligation, at every point: the triple above, restated. -/
theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.KernelIdeal.R1

end
-- ==== Proof.KI.Body2.lean ====
/- Kernel region 2: the body of its pallas_call run on whole staging memrefs. The geometry of the windows, the branch
   conditions in closed form over the grid points, and one run of the body per case of its branches: the pieces its
   stores leave in each output. Stated over any contents `W` of the buffers at the region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V W c (Pipeline.arrRef spec2 w))

/-- Input window 0's current staging buffer holds its block at every point, fetched there or not: where it isn't
    fetched the block's index has not moved. It holds of any proof data whose array is `V`'s (`hA`) and whose body
    leaves the block in place (`hafter`). -/
theorem before_0_of {c : Dev nD} (dat : Dat τ (Elt F) Unit ℕ (UR sig nD τ) ℕ cfg2 c) (hA : dat.A 0 = V W c (Pipeline.arrRef spec2 0))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it isn't
    fetched the block's index has not moved. It holds of any proof data whose array is `V`'s (`hA`) and whose body
    leaves the block in place (`hafter`). -/
theorem before_1_of {c : Dev nD} (dat : Dat τ (Elt F) Unit ℕ (UR sig nD τ) ℕ cfg2 c) (hA : dat.A 1 = V W c (Pipeline.arrRef spec2 1))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it isn't
    fetched the block's index has not moved. It holds of any proof data whose array is `V`'s (`hA`) and whose body
    leaves the block in place (`hafter`). -/
theorem before_2_of {c : Dev nD} (dat : Dat τ (Elt F) Unit ℕ (UR sig nD τ) ℕ cfg2 c) (hA : dat.A 2 = V W c (Pipeline.arrRef spec2 2))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it isn't
    fetched the block's index has not moved. It holds of any proof data whose array is `V`'s (`hA`) and whose body
    leaves the block in place (`hafter`). -/
theorem before_3_of {c : Dev nD} (dat : Dat τ (Elt F) Unit ℕ (UR sig nD τ) ℕ cfg2 c) (hA : dat.A 3 = V W c (Pipeline.arrRef spec2 3))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it isn't
    fetched the block's index has not moved. It holds of any proof data whose array is `V`'s (`hA`) and whose body
    leaves the block in place (`hafter`). -/
theorem before_4_of {c : Dev nD} (dat : Dat τ (Elt F) Unit ℕ (UR sig nD τ) ℕ cfg2 c) (hA : dat.A 4 = V W c (Pipeline.arrRef spec2 4))
    (hafter : ∀ t, dat.after 4 t = iblk W c 4 t) (t : Fin cfg2.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it isn't
    fetched the block's index has not moved. It holds of any proof data whose array is `V`'s (`hA`) and whose body
    leaves the block in place (`hafter`). -/
theorem before_5_of {c : Dev nD} (dat : Dat τ (Elt F) Unit ℕ (UR sig nD τ) ℕ cfg2 c) (hA : dat.A 5 = V W c (Pipeline.arrRef spec2 5))
    (hafter : ∀ t, dat.after 5 t = iblk W c 5 t) (t : Fin cfg2.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it isn't
    fetched the block's index has not moved. It holds of any proof data whose array is `V`'s (`hA`) and whose body
    leaves the block in place (`hafter`). -/
theorem before_6_of {c : Dev nD} (dat : Dat τ (Elt F) Unit ℕ (UR sig nD τ) ℕ cfg2 c) (hA : dat.A 6 = V W c (Pipeline.arrRef spec2 6))
    (hafter : ∀ t, dat.after 6 t = iblk W c 6 t) (t : Fin cfg2.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond_0 (i : grid2.Coords) : Prop := (Scalar.cmpi .ne (Scalar.extui (Scalar.cmpi .eq (BitVec.ofNat 32 (i 0).val) 0#32)) 0#32) = 1#1
/-- It holds at the first point only — by arithmetic of the point. -/
theorem hcond_0 : ∀ t : Fin cfg2.N, cond_0 (grid2.coords t) ↔ t.val % 49 = 0 :=
  (fun t => by
    have ht : t.val < 49 := Nat.lt_of_lt_of_eq t.isLt N_2
    have e0 : (grid2.coords t 0).val = t.val / 1 % 49 := Pipeline.Grid.coords_val t 0 (by decide) rfl
    simp only [cond_0, e0]
    word_cmp
   : ∀ t : Fin grid2.N, cond_0 (grid2.coords t) ↔ t.val % 49 = 0)

/-- The condition of the body's `scf.if` 1 (`k2_h2`), from the grid coordinates (the skeleton's scalar
    chain substituted). -/
abbrev cond_1 (i : grid2.Coords) : Prop := k2_cond2 i = 1#1
/-- It holds at the last point only — by arithmetic of the point. -/
theorem hcond_1 : ∀ t : Fin cfg2.N, cond_1 (grid2.coords t) ↔ t.val % 49 = 48 :=
  (fun t => by
    have ht : t.val < 49 := Nat.lt_of_lt_of_eq t.isLt N_2
    have e0 : (grid2.coords t 0).val = t.val / 1 % 49 := Pipeline.Grid.coords_val t 0 (by decide) rfl
    simp only [cond_1, k2_cond2, e0]
    word_cmp
   : ∀ t : Fin grid2.N, cond_1 (grid2.coords t) ↔ t.val % 49 = 48)

/-! ## Where the windows are idle (the printed configuration's table `Cfg.idle`) -/

/-- Window 0 is never idle (an input). -/
theorem liveAt_0 : ∀ t : Fin cfg2.N, cfg2.idle 0 (grid2.coords t) = false := fun _ => rfl
/-- Window 1 is never idle (an input). -/
theorem liveAt_1 : ∀ t : Fin cfg2.N, cfg2.idle 1 (grid2.coords t) = false := fun _ => rfl
/-- Window 2 is never idle (an input). -/
theorem liveAt_2 : ∀ t : Fin cfg2.N, cfg2.idle 2 (grid2.coords t) = false := fun _ => rfl
/-- Window 3 is never idle (an input). -/
theorem liveAt_3 : ∀ t : Fin cfg2.N, cfg2.idle 3 (grid2.coords t) = false := fun _ => rfl
/-- Window 4 is never idle (an input). -/
theorem liveAt_4 : ∀ t : Fin cfg2.N, cfg2.idle 4 (grid2.coords t) = false := fun _ => rfl
/-- Window 5 is never idle (an input). -/
theorem liveAt_5 : ∀ t : Fin cfg2.N, cfg2.idle 5 (grid2.coords t) = false := fun _ => rfl
/-- Window 6 is never idle (an input). -/
theorem liveAt_6 : ∀ t : Fin cfg2.N, cfg2.idle 6 (grid2.coords t) = false := fun _ => rfl
/-- At the points of case A the printed configuration (`Cfg.idle`) calls output 7 idle: the case stores nothing into it. -/
theorem idleAt_7_A : ∀ t : Fin cfg2.N, cond_0 (grid2.coords t) → ¬cond_1 (grid2.coords t) → cfg2.idle 7 (grid2.coords t) = true := by decide +kernel
/-- At the points of case A the pipeline does not write output 7's block back. -/
theorem noFlush_7_A : ∀ t : Fin cfg2.N, cond_0 (grid2.coords t) → ¬cond_1 (grid2.coords t) → (cfg2.win 7).flush t = false := by decide +kernel
/-- At the points of case B the printed configuration (`Cfg.idle`) calls output 7 idle: the case stores nothing into it. -/
theorem idleAt_7_B : ∀ t : Fin cfg2.N, ¬cond_0 (grid2.coords t) → ¬cond_1 (grid2.coords t) → cfg2.idle 7 (grid2.coords t) = true := by decide +kernel
/-- At the points of case B the pipeline does not write output 7's block back. -/
theorem noFlush_7_B : ∀ t : Fin cfg2.N, ¬cond_0 (grid2.coords t) → ¬cond_1 (grid2.coords t) → (cfg2.win 7).flush t = false := by decide +kernel
/-- At the points of case C the printed configuration (`Cfg.idle`) calls output 7 live: the case stores into it. -/
theorem liveAt_7_C : ∀ t : Fin cfg2.N, ¬cond_0 (grid2.coords t) → cond_1 (grid2.coords t) → cfg2.idle 7 (grid2.coords t) = false := by decide +kernel

/-! ## The kernel body on any staging memrefs: a subtype the run finds -/

/-- One staging buffer of output window 7, through which its contents are stated (`View.read_writes_of_cover`: the
    choice does not matter). -/
abbrev VO_7 : View sig .tc .vmem S1024x128 .f32 := (Memref.whole cc2_stg7_0 : Memref sig .tc .vmem S1024x128 .f32).view
/-- Each window's current staging memref at point `t`, spelled as the pipeline passes it (`bodyAt2`), and its wholeness. -/
abbrev ms_0 (t : Fin cfg2.N) : Memref sig .tc .vmem S2048x128 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x1 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S2048x1 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S8x128 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S8x128 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S128x128 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S1x128 .f32 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S1024x128 .f32 := win2_7.stage (cfg2.slots t 7)
abbrev hs_7 (t : Fin cfg2.N) : (ms_7 t).IsWhole := hstage2_7 ((cfg2.slots t 7).cast nbuf2_7)
/-- The scratch operands: whole scoped buffers of the kernel's own, passed beside the windows. -/
abbrev scM_0 : Memref sig .tc .vmem S1024x128 .f32 := Memref.whole cc2_scratch0
abbrev scM_1 : Memref sig .tc .vmem S1024x1 .f32 := Memref.whole cc2_scratch1
/-- The scratch `arg9` the kernel carries between points, as a view: what it holds is stated through it. -/
abbrev VS_0 : View sig .tc .vmem S1024x128 .f32 := scM_0.view
/-- The scratch `arg10` the kernel carries between points, as a view: what it holds is stated through it. -/
abbrev VS_1 : View sig .tc .vmem S1024x1 .f32 := scM_1.view

/-- What rides along untouched: the scoped buffers the other two regions stage through, each at some contents, and the
    generator register at some state. -/
def others (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f)) ∗ (∃ r, prngReg c r))

theorem PhiA_in (c : Dev nD) :
    (Pipeline.ΦA spec2 c : sProp 𝕄)
      ⊢ iprop(iprop((∃ d, owns (c : Thread nD τ) scM_0 fullShare d) ∗ (∃ d, owns (c : Thread nD τ) scM_1 fullShare d)) ∗ others c) := by
  unfold Pipeline.ΦA others; rw [scopedRest2_eq]; simp only [scM_0, scM_1, owns_whole]
  iintro ⟨⟨H0, H1, H2, H3, H4, H5, H6, H7, H8, H9, H10, H11, H12, H13, H14, HS0, HS1⟩, Hg⟩
  isplitl [HS0 HS1]
  · isplitl [HS0]
    · iexact HS0
    iexact HS1
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

theorem PhiA_out (c : Dev nD) :
    iprop(iprop((∃ d, owns (c : Thread nD τ) scM_0 fullShare d) ∗ (∃ d, owns (c : Thread nD τ) scM_1 fullShare d)) ∗ others c)
      ⊢ (Pipeline.ΦA spec2 c : sProp 𝕄) := by
  unfold Pipeline.ΦA others; rw [scopedRest2_eq]; simp only [scM_0, scM_1, owns_whole]
  iintro ⟨⟨HS0, HS1⟩, ⟨⟨H0, H1, H2, H3, H4, H5, H6, H7, H8, H9, H10, H11, H12, H13, H14⟩, Hg⟩⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]
    · iexact HS0
    iexact HS1
  iexact Hg

/-- The invariant at the region's ends with the two scratch operands as memrefs owned at some contents. -/
theorem PhiA_eq (c : Dev nD) :
    (Pipeline.ΦA spec2 c : sProp 𝕄)
      = iprop(iprop((∃ d, owns (c : Thread nD τ) scM_0 fullShare d) ∗ (∃ d, owns (c : Thread nD τ) scM_1 fullShare d)) ∗ others c) :=
  equiv_iff.mp ⟨PhiA_in c, PhiA_out c⟩

set_option maxHeartbeats 1000000 in
/-- Case A (`scf.if` 0 taken, `scf.if` 1 not taken: points 0). What the body's stores leave in each buffer it writes,
    as pieces, the last first, with the proof that the body, run on whole staging memrefs that hold the inputs'
    blocks, keeps the inputs and leaves those pieces written. The hypotheses `hc·` decide the branches; a buffer that
    the case reads before it covers it is at the contents the point before left. -/
noncomputable def bodyRun_A (c : Dev nD) (i : grid2.Coords) (arg1 : Memref sig .tc .vmem S2048x128 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond_0 i) (hc1 : ¬cond_1 i)
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) :
    Σ' (L7 : List (View.Piece (Elt F) S1024x128 .f32)), Σ' (LS0 : List (View.Piece (Elt F) S1024x128 .f32)), { LS1 : List (View.Piece (Elt F) S1024x1 .f32) //
      ∀ (xi7 : Vec F S1024x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__kc i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc2__kc_eq_skeleton]; unfold cc2__kc_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

set_option maxHeartbeats 1000000 in
/-- Case B (`scf.if` 0 not taken, `scf.if` 1 not taken: points 1, 2, … 47: 47 of 49). What the body's stores leave in
    each buffer it writes, as pieces, the last first, with the proof that the body, run on whole staging memrefs that
    hold the inputs' blocks, keeps the inputs and leaves those pieces written. The hypotheses `hc·` decide the
    branches; a buffer that the case reads before it covers it is at the contents the point before left. -/
noncomputable def bodyRun_B (c : Dev nD) (i : grid2.Coords) (arg1 : Memref sig .tc .vmem S2048x128 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond_0 i) (hc1 : ¬cond_1 i)
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) :
    Σ' (L7 : List (View.Piece (Elt F) S1024x128 .f32)), Σ' (LS0 : List (View.Piece (Elt F) S1024x128 .f32)), { LS1 : List (View.Piece (Elt F) S1024x1 .f32) //
      ∀ (xi7 : Vec F S1024x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__kc i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc2__kc_eq_skeleton]; unfold cc2__kc_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

set_option maxHeartbeats 1000000 in
/-- Case C (`scf.if` 0 not taken, `scf.if` 1 taken: points 48). What the body's stores leave in each buffer it writes,
    as pieces, the last first, with the proof that the body, run on whole staging memrefs that hold the inputs'
    blocks, keeps the inputs and leaves those pieces written. The hypotheses `hc·` decide the branches; a buffer that
    the case reads before it covers it is at the contents the point before left. -/
noncomputable def bodyRun_C (c : Dev nD) (i : grid2.Coords) (arg1 : Memref sig .tc .vmem S2048x128 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond_0 i) (hc1 : cond_1 i)
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) :
    Σ' (L7 : List (View.Piece (Elt F) S1024x128 .f32)), Σ' (LS0 : List (View.Piece (Elt F) S1024x128 .f32)), { LS1 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__kc i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__kc_eq_skeleton]; unfold cc2__kc_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.R2

end
-- ==== Proof.KI.Region2.lean ====
/- Kernel region 2: what its output windows (and the scratch it carries) hold after each grid point, the pipeline's
   proof data over any entry contents `W`, and the body obligation at every point. -/
module

public import proofs.«01_k».proof.Proof.KI.Body2

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- The body's run in case A at point `t`: on the staging memrefs the pipeline passes there. -/
abbrev kernelRun_A (c : Dev nD) (t : Fin cfg2.N) (hc0 : cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) :=
  bodyRun_A (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) hc0 hc1 x0 x1 x2 x3 x4 x5 x6

/-- The body's run in case B at point `t`: on the staging memrefs the pipeline passes there. -/
abbrev kernelRun_B (c : Dev nD) (t : Fin cfg2.N) (hc0 : ¬cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) :=
  bodyRun_B (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) hc0 hc1 x0 x1 x2 x3 x4 x5 x6 xs0 xs1

/-- The body's run in case C at point `t`: on the staging memrefs the pipeline passes there. -/
abbrev kernelRun_C (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) :=
  bodyRun_C (F := F) c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) hc0 hc1 x0 x1 x2 x3 x4 x5 x6 xs0 xs1

/-- Case A stores nothing into output 7, which is idle at its points and not written back there: no pieces. This
    placeholder is never consulted. -/
def out_A_7 (c : Dev nD) (t : Fin cfg2.N) (hc0 : cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) : Vec F S1024x128 .f32 :=
  VO_7.read (Elt F) (VO_7.writes (Elt F) VO_7.junk (kernelRun_A c t hc0 hc1 x0 x1 x2 x3 x4 x5 x6).1)

/-- Case A's pieces for scratch `arg9`, which the kernel carries between points, cover it: one of them a store of the
    whole buffer. -/
theorem scover_A_0 (c : Dev nD) (t : Fin cfg2.N) (hc0 : cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (y : S1024x128.Idx) :
    ∃ pc ∈ (kernelRun_A c t hc0 hc1 x0 x1 x2 x3 x4 x5 x6).2.1, y ∈ pc.1.set :=
  View.cover_of_wholeMem (kernelRun_A c t hc0 hc1 x0 x1 x2 x3 x4 x5 x6).2.1 (by sl_whole_mem) y

/-- What case A leaves in scratch `arg9`: its pieces read back over anything. -/
def sout_A_0 (c : Dev nD) (t : Fin cfg2.N) (hc0 : cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) : Vec F S1024x128 .f32 :=
  VS_0.read (Elt F) (VS_0.writes (Elt F) VS_0.junk (kernelRun_A c t hc0 hc1 x0 x1 x2 x3 x4 x5 x6).2.1)

/-- Case A's pieces for scratch `arg10`, which the kernel carries between points, cover it: one of them a store of the
    whole buffer. -/
theorem scover_A_1 (c : Dev nD) (t : Fin cfg2.N) (hc0 : cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (y : S1024x1.Idx) :
    ∃ pc ∈ (kernelRun_A c t hc0 hc1 x0 x1 x2 x3 x4 x5 x6).2.2.1, y ∈ pc.1.set :=
  View.cover_of_wholeMem (kernelRun_A c t hc0 hc1 x0 x1 x2 x3 x4 x5 x6).2.2.1 (by sl_whole_mem) y

/-- What case A leaves in scratch `arg10`: its pieces read back over anything. -/
def sout_A_1 (c : Dev nD) (t : Fin cfg2.N) (hc0 : cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) : Vec F S1024x1 .f32 :=
  VS_1.read (Elt F) (VS_1.writes (Elt F) VS_1.junk (kernelRun_A c t hc0 hc1 x0 x1 x2 x3 x4 x5 x6).2.2.1)

/-- Case B stores nothing into output 7, which is idle at its points and not written back there: no pieces. This
    placeholder is never consulted. -/
def out_B_7 (c : Dev nD) (t : Fin cfg2.N) (hc0 : ¬cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) : Vec F S1024x128 .f32 :=
  VO_7.read (Elt F) (VO_7.writes (Elt F) VO_7.junk (kernelRun_B c t hc0 hc1 x0 x1 x2 x3 x4 x5 x6 xs0 xs1).1)

/-- Case B's pieces for scratch `arg9`, which the kernel carries between points, cover it: 8 pieces of `S128x128`
    tiling it. -/
theorem scover_B_0 (c : Dev nD) (t : Fin cfg2.N) (hc0 : ¬cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) (y : S1024x128.Idx) :
    ∃ pc ∈ (kernelRun_B c t hc0 hc1 x0 x1 x2 x3 x4 x5 x6 xs0 xs1).2.1, y ∈ pc.1.set :=
  View.cover_of_tiledL (kernelRun_B c t hc0 hc1 x0 x1 x2 x3 x4 x5 x6 xs0 xs1).2.1 S128x128.size (by sl_kernel_rfl) y

/-- What case B leaves in scratch `arg9`: its pieces read back over anything. -/
def sout_B_0 (c : Dev nD) (t : Fin cfg2.N) (hc0 : ¬cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) : Vec F S1024x128 .f32 :=
  VS_0.read (Elt F) (VS_0.writes (Elt F) VS_0.junk (kernelRun_B c t hc0 hc1 x0 x1 x2 x3 x4 x5 x6 xs0 xs1).2.1)

/-- Case B's pieces for scratch `arg10`, which the kernel carries between points, cover it: 8 pieces of `S128x1`
    tiling it. -/
theorem scover_B_1 (c : Dev nD) (t : Fin cfg2.N) (hc0 : ¬cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) (y : S1024x1.Idx) :
    ∃ pc ∈ (kernelRun_B c t hc0 hc1 x0 x1 x2 x3 x4 x5 x6 xs0 xs1).2.2.1, y ∈ pc.1.set :=
  View.cover_of_tiledL (kernelRun_B c t hc0 hc1 x0 x1 x2 x3 x4 x5 x6 xs0 xs1).2.2.1 S128x1.size (by sl_kernel_rfl) y

/-- What case B leaves in scratch `arg10`: its pieces read back over anything. -/
def sout_B_1 (c : Dev nD) (t : Fin cfg2.N) (hc0 : ¬cond_0 (grid2.coords t)) (hc1 : ¬cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) : Vec F S1024x1 .f32 :=
  VS_1.read (Elt F) (VS_1.writes (Elt F) VS_1.junk (kernelRun_B c t hc0 hc1 x0 x1 x2 x3 x4 x5 x6 xs0 xs1).2.2.1)

/-- Case C's pieces for output 7 tile its block (1 store of `S1024x128`), so they cover it. -/
theorem cover_C_7 (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) (y : S1024x128.Idx) :
    ∃ pc ∈ (kernelRun_C c t hc0 hc1 x0 x1 x2 x3 x4 x5 x6 xs0 xs1).1, y ∈ pc.1.set :=
  View.cover_of_tiledL (kernelRun_C c t hc0 hc1 x0 x1 x2 x3 x4 x5 x6 xs0 xs1).1 S1024x128.size (by sl_kernel_rfl) y

/-- What case C leaves in output 7's staging buffer: its pieces read back over anything. -/
def out_C_7 (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) : Vec F S1024x128 .f32 :=
  VO_7.read (Elt F) (VO_7.writes (Elt F) VO_7.junk (kernelRun_C c t hc0 hc1 x0 x1 x2 x3 x4 x5 x6 xs0 xs1).1)

/-- Case C's pieces for scratch `arg9`, which the kernel carries between points, cover it: 8 pieces of `S128x128`
    tiling it. -/
theorem scover_C_0 (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) (y : S1024x128.Idx) :
    ∃ pc ∈ (kernelRun_C c t hc0 hc1 x0 x1 x2 x3 x4 x5 x6 xs0 xs1).2.1, y ∈ pc.1.set :=
  View.cover_of_tiledL (kernelRun_C c t hc0 hc1 x0 x1 x2 x3 x4 x5 x6 xs0 xs1).2.1 S128x128.size (by sl_kernel_rfl) y

/-- What case C leaves in scratch `arg9`: its pieces read back over anything. -/
def sout_C_0 (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) : Vec F S1024x128 .f32 :=
  VS_0.read (Elt F) (VS_0.writes (Elt F) VS_0.junk (kernelRun_C c t hc0 hc1 x0 x1 x2 x3 x4 x5 x6 xs0 xs1).2.1)

/-- Case C's pieces for scratch `arg10`, which the kernel carries between points, cover it: 8 pieces of `S128x1`
    tiling it. -/
theorem scover_C_1 (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) (y : S1024x1.Idx) :
    ∃ pc ∈ (kernelRun_C c t hc0 hc1 x0 x1 x2 x3 x4 x5 x6 xs0 xs1).2.2.1, y ∈ pc.1.set :=
  View.cover_of_tiledL (kernelRun_C c t hc0 hc1 x0 x1 x2 x3 x4 x5 x6 xs0 xs1).2.2.1 S128x1.size (by sl_kernel_rfl) y

/-- What case C leaves in scratch `arg10`: its pieces read back over anything. -/
def sout_C_1 (c : Dev nD) (t : Fin cfg2.N) (hc0 : ¬cond_0 (grid2.coords t)) (hc1 : cond_1 (grid2.coords t))
    (x0 : Vec F S2048x128 .f32) (x1 : Vec F S2048x1 .f32) (x2 : Vec F S2048x1 .f32) (x3 : Vec F S8x128 .f32) (x4 : Vec F S8x128 .f32) (x5 : Vec F S128x128 .f32) (x6 : Vec F S1x128 .f32) (xs0 : Vec F S1024x128 .f32) (xs1 : Vec F S1024x1 .f32) : Vec F S1024x1 .f32 :=
  VS_1.read (Elt F) (VS_1.writes (Elt F) VS_1.junk (kernelRun_C c t hc0 hc1 x0 x1 x2 x3 x4 x5 x6 xs0 xs1).2.2.1)

/-! ## What the outputs hold after each point -/

/-- What the outputs' staging buffers and the carried scratch hold after the body at position `n` (a tuple: the
    outputs in window order, then the scratch): those of the case that position is in, run on the point's blocks, a
    buffer that the case reads before it covers it at what this leaves at `n - 1`. -/
def outsAt (c : Dev nD) : (n : ℕ) → n < cfg2.N → Vec F S1024x128 .f32 × Vec F S1024x128 .f32 × Vec F S1024x1 .f32
  | 0, hn => (out_A_7 c ⟨0, hn⟩ ((hcond_0 ⟨0, hn⟩).mpr (Nat.zero_mod _)) (fun h => (fun h => by (try dsimp only at h); omega) ((hcond_1 ⟨0, hn⟩).mp h)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩), sout_A_0 c ⟨0, hn⟩ ((hcond_0 ⟨0, hn⟩).mpr (Nat.zero_mod _)) (fun h => (fun h => by (try dsimp only at h); omega) ((hcond_1 ⟨0, hn⟩).mp h)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩), sout_A_1 c ⟨0, hn⟩ ((hcond_0 ⟨0, hn⟩).mpr (Nat.zero_mod _)) (fun h => (fun h => by (try dsimp only at h); omega) ((hcond_1 ⟨0, hn⟩).mp h)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩))
  | n + 1, hn =>
    if h0 : (n + 1) % 49 = 0 then
      if h1 : (n + 1) % 49 = 48 then
        False.elim (by have hN : n + 1 < 49 := lt_of_lt_of_eq hn (show cfg2.N = 49 from N_2); omega)
      else
        (out_A_7 c ⟨n + 1, hn⟩ ((hcond_0 ⟨n + 1, hn⟩).mpr h0) (fun h => h1 ((hcond_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩), sout_A_0 c ⟨n + 1, hn⟩ ((hcond_0 ⟨n + 1, hn⟩).mpr h0) (fun h => h1 ((hcond_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩), sout_A_1 c ⟨n + 1, hn⟩ ((hcond_0 ⟨n + 1, hn⟩).mpr h0) (fun h => h1 ((hcond_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩))
    else
      if h1 : (n + 1) % 49 = 48 then
        (out_C_7 c ⟨n + 1, hn⟩ (fun h => h0 ((hcond_0 ⟨n + 1, hn⟩).mp h)) ((hcond_1 ⟨n + 1, hn⟩).mpr h1) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt c n (Nat.lt_of_succ_lt hn)).2.1 (outsAt c n (Nat.lt_of_succ_lt hn)).2.2, sout_C_0 c ⟨n + 1, hn⟩ (fun h => h0 ((hcond_0 ⟨n + 1, hn⟩).mp h)) ((hcond_1 ⟨n + 1, hn⟩).mpr h1) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt c n (Nat.lt_of_succ_lt hn)).2.1 (outsAt c n (Nat.lt_of_succ_lt hn)).2.2, sout_C_1 c ⟨n + 1, hn⟩ (fun h => h0 ((hcond_0 ⟨n + 1, hn⟩).mp h)) ((hcond_1 ⟨n + 1, hn⟩).mpr h1) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt c n (Nat.lt_of_succ_lt hn)).2.1 (outsAt c n (Nat.lt_of_succ_lt hn)).2.2)
      else
        (out_B_7 c ⟨n + 1, hn⟩ (fun h => h0 ((hcond_0 ⟨n + 1, hn⟩).mp h)) (fun h => h1 ((hcond_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt c n (Nat.lt_of_succ_lt hn)).2.1 (outsAt c n (Nat.lt_of_succ_lt hn)).2.2, sout_B_0 c ⟨n + 1, hn⟩ (fun h => h0 ((hcond_0 ⟨n + 1, hn⟩).mp h)) (fun h => h1 ((hcond_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt c n (Nat.lt_of_succ_lt hn)).2.1 (outsAt c n (Nat.lt_of_succ_lt hn)).2.2, sout_B_1 c ⟨n + 1, hn⟩ (fun h => h0 ((hcond_0 ⟨n + 1, hn⟩).mp h)) (fun h => h1 ((hcond_1 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt c n (Nat.lt_of_succ_lt hn)).2.1 (outsAt c n (Nat.lt_of_succ_lt hn)).2.2)

/-- `outsAt` at a point of case A: that case's contents. -/
theorem outsAt_A (c : Dev nD) (t : Fin cfg2.N) (h0 : t.val % 49 = 0) (h1 : ¬t.val % 49 = 48) :
    outsAt W c t.val t.isLt = (out_A_7 c t ((hcond_0 t).mpr h0) (fun h => h1 ((hcond_1 t).mp h)) (iblk W c 0 t) (iblk W c 1 t) (iblk W c 2 t) (iblk W c 3 t) (iblk W c 4 t) (iblk W c 5 t) (iblk W c 6 t), sout_A_0 c t ((hcond_0 t).mpr h0) (fun h => h1 ((hcond_1 t).mp h)) (iblk W c 0 t) (iblk W c 1 t) (iblk W c 2 t) (iblk W c 3 t) (iblk W c 4 t) (iblk W c 5 t) (iblk W c 6 t), sout_A_1 c t ((hcond_0 t).mpr h0) (fun h => h1 ((hcond_1 t).mp h)) (iblk W c 0 t) (iblk W c 1 t) (iblk W c 2 t) (iblk W c 3 t) (iblk W c 4 t) (iblk W c 5 t) (iblk W c 6 t)) := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg2.N) (h0 : ¬t.val % 49 = 0) (h1 : ¬t.val % 49 = 48) :
    outsAt W c t.val t.isLt = (out_B_7 c t (fun h => h0 ((hcond_0 t).mp h)) (fun h => h1 ((hcond_1 t).mp h)) (iblk W c 0 t) (iblk W c 1 t) (iblk W c 2 t) (iblk W c 3 t) (iblk W c 4 t) (iblk W c 5 t) (iblk W c 6 t) (outsAt W c (t.val - 1) (Nat.lt_of_le_of_lt (Nat.sub_le _ _) t.isLt)).2.1 (outsAt W c (t.val - 1) (Nat.lt_of_le_of_lt (Nat.sub_le _ _) t.isLt)).2.2, sout_B_0 c t (fun h => h0 ((hcond_0 t).mp h)) (fun h => h1 ((hcond_1 t).mp h)) (iblk W c 0 t) (iblk W c 1 t) (iblk W c 2 t) (iblk W c 3 t) (iblk W c 4 t) (iblk W c 5 t) (iblk W c 6 t) (outsAt W c (t.val - 1) (Nat.lt_of_le_of_lt (Nat.sub_le _ _) t.isLt)).2.1 (outsAt W c (t.val - 1) (Nat.lt_of_le_of_lt (Nat.sub_le _ _) t.isLt)).2.2, sout_B_1 c t (fun h => h0 ((hcond_0 t).mp h)) (fun h => h1 ((hcond_1 t).mp h)) (iblk W c 0 t) (iblk W c 1 t) (iblk W c 2 t) (iblk W c 3 t) (iblk W c 4 t) (iblk W c 5 t) (iblk W c 6 t) (outsAt W c (t.val - 1) (Nat.lt_of_le_of_lt (Nat.sub_le _ _) t.isLt)).2.1 (outsAt W c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg2.N) (h0 : ¬t.val % 49 = 0) (h1 : t.val % 49 = 48) :
    outsAt W c t.val t.isLt = (out_C_7 c t (fun h => h0 ((hcond_0 t).mp h)) ((hcond_1 t).mpr h1) (iblk W c 0 t) (iblk W c 1 t) (iblk W c 2 t) (iblk W c 3 t) (iblk W c 4 t) (iblk W c 5 t) (iblk W c 6 t) (outsAt W c (t.val - 1) (Nat.lt_of_le_of_lt (Nat.sub_le _ _) t.isLt)).2.1 (outsAt W c (t.val - 1) (Nat.lt_of_le_of_lt (Nat.sub_le _ _) t.isLt)).2.2, sout_C_0 c t (fun h => h0 ((hcond_0 t).mp h)) ((hcond_1 t).mpr h1) (iblk W c 0 t) (iblk W c 1 t) (iblk W c 2 t) (iblk W c 3 t) (iblk W c 4 t) (iblk W c 5 t) (iblk W c 6 t) (outsAt W c (t.val - 1) (Nat.lt_of_le_of_lt (Nat.sub_le _ _) t.isLt)).2.1 (outsAt W c (t.val - 1) (Nat.lt_of_le_of_lt (Nat.sub_le _ _) t.isLt)).2.2, sout_C_1 c t (fun h => h0 ((hcond_0 t).mp h)) ((hcond_1 t).mpr h1) (iblk W c 0 t) (iblk W c 1 t) (iblk W c 2 t) (iblk W c 3 t) (iblk W c 4 t) (iblk W c 5 t) (iblk W c 6 t) (outsAt W c (t.val - 1) (Nat.lt_of_le_of_lt (Nat.sub_le _ _) t.isLt)).2.1 (outsAt W c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards each
    carried scratch at what the point before left in it (`outsAt`'s scratch components), the others at anything; and
    the generator register at some state. -/
def PhiS (c : Dev nD) : (n : ℕ) → n ≤ cfg2.N → sProp 𝕄
  | 0, _ => Pipeline.ΦA spec2 c
  | n + 1, hn => iprop(iprop(owns (c : Thread nD τ) scM_0 fullShare ((outsAt W c n hn).2.1) ∗ owns (c : Thread nD τ) scM_1 fullShare ((outsAt W c n hn).2.2)) ∗ others c)

theorem PhiS_zero (c : Dev nD) (n : ℕ) (h : n ≤ cfg2.N) (hz : n = 0) : PhiS W c n h = Pipeline.ΦA spec2 c := by
  subst hz; rfl

/-- After point `n` (before point `n + 1`): the carried scratch at that point's contents. -/
theorem PhiS_succ (c : Dev nD) (n : ℕ) (hn : n < cfg2.N) :
    PhiS W c (n + 1) hn = iprop(iprop(owns (c : Thread nD τ) scM_0 fullShare ((outsAt W c n hn).2.1) ∗ owns (c : Thread nD τ) scM_1 fullShare ((outsAt W c n hn).2.2)) ∗ others c) := rfl

/-- Before a point that is not the first: the carried scratch at what the point before left. -/
theorem PhiS_pos (c : Dev nD) (n : ℕ) (h : n ≤ cfg2.N) (hz : n ≠ 0) :
    PhiS W c n h = iprop(iprop(owns (c : Thread nD τ) scM_0 fullShare ((outsAt W c (n - 1) (by omega)).2.1) ∗ owns (c : Thread nD τ) scM_1 fullShare ((outsAt W c (n - 1) (by omega)).2.2)) ∗ others c) := by
  cases n with
  | zero => exact absurd rfl hz
  | succ n => rfl

/-! ## The pipeline's proof data -/

/-- The proof data of the pipeline on core `c`: the arrays as the region finds them (`V`); after the body at point `t`
    each input's buffer at its block and the outputs' at `outsAt`; the region's invariant; nothing owed; full shares.
    -/
def dats (c : Dev nD) : Dat τ (Elt F) Unit ℕ (UR sig nD τ) ℕ cfg2 c where
  A w := V W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt W c t.val t.isLt).1
  Φ t := PhiS W c t.val (Nat.le_of_lt_succ t.isLt)
  q _ := fullShare
  owed _ := 0

/-- The proof data's arrays are the contents the region is entered with. -/
theorem A_eq (c : Dev nD) (w : Fin cfg2.W) : (dats W c).A w = V W c (Pipeline.arrRef spec2 w) := by
  dsimp only [dats]

/-- The invariant at a point's start (the proof data at `t.castSucc`), restated at `t.val`. -/
theorem PhiS_castSucc (c : Dev nD) (t : Fin cfg2.N) :
    (dats W c).Φ t.castSucc = PhiS W c t.val (Nat.le_of_lt t.isLt) := by
  dsimp only [dats]; exact Pipeline.Dat.Φ_castSucc (PhiS W c) t

/-- What the body leaves, window by window. -/
theorem after_0 (c : Dev nD) (t : Fin cfg2.N) : (dats W c).after 0 t = iblk W c 0 t := by dsimp only [dats]
theorem after_1 (c : Dev nD) (t : Fin cfg2.N) : (dats W c).after 1 t = iblk W c 1 t := by dsimp only [dats]
theorem after_2 (c : Dev nD) (t : Fin cfg2.N) : (dats W c).after 2 t = iblk W c 2 t := by dsimp only [dats]
theorem after_3 (c : Dev nD) (t : Fin cfg2.N) : (dats W c).after 3 t = iblk W c 3 t := by dsimp only [dats]
theorem after_4 (c : Dev nD) (t : Fin cfg2.N) : (dats W c).after 4 t = iblk W c 4 t := by dsimp only [dats]
theorem after_5 (c : Dev nD) (t : Fin cfg2.N) : (dats W c).after 5 t = iblk W c 5 t := by dsimp only [dats]
theorem after_6 (c : Dev nD) (t : Fin cfg2.N) : (dats W c).after 6 t = iblk W c 6 t := by dsimp only [dats]
theorem after_7 (c : Dev nD) (t : Fin cfg2.N) : (dats W c).after 7 t = (outsAt W c t.val t.isLt).1 := by dsimp only [dats]

/-- Each input's current staging buffer holds its block at every point, fetched there or not (`beforeK_W_of`). -/
theorem before_0 (c : Dev nD) (t : Fin cfg2.N) (d) : (dats W c).before 0 t d = iblk W c 0 t :=
  before_0_of W (dats W c) (A_eq W c 0) (after_0 W c) t d
theorem before_1 (c : Dev nD) (t : Fin cfg2.N) (d) : (dats W c).before 1 t d = iblk W c 1 t :=
  before_1_of W (dats W c) (A_eq W c 1) (after_1 W c) t d
theorem before_2 (c : Dev nD) (t : Fin cfg2.N) (d) : (dats W c).before 2 t d = iblk W c 2 t :=
  before_2_of W (dats W c) (A_eq W c 2) (after_2 W c) t d
theorem before_3 (c : Dev nD) (t : Fin cfg2.N) (d) : (dats W c).before 3 t d = iblk W c 3 t :=
  before_3_of W (dats W c) (A_eq W c 3) (after_3 W c) t d
theorem before_4 (c : Dev nD) (t : Fin cfg2.N) (d) : (dats W c).before 4 t d = iblk W c 4 t :=
  before_4_of W (dats W c) (A_eq W c 4) (after_4 W c) t d
theorem before_5 (c : Dev nD) (t : Fin cfg2.N) (d) : (dats W c).before 5 t d = iblk W c 5 t :=
  before_5_of W (dats W c) (A_eq W c 5) (after_5 W c) t d
theorem before_6 (c : Dev nD) (t : Fin cfg2.N) (d) : (dats W c).before 6 t d = iblk W c 6 t :=
  before_6_of W (dats W c) (A_eq W c 6) (after_6 W c) t d

/-! ## The body obligation, at a generic point -/

/-- What the body is called with at point `t`, the windows one by one, -/
def bodyPre (c : Dev nD) (t : Fin cfg2.N) : sProp 𝕄 :=
  iprop((dats W c).Φ t.castSucc ∗ (dats W c).owesAt () t.castSucc
    ∗ (∃ d, owns (c : Thread nD τ) (ms_0 t) fullShare ((dats W c).before 0 t d))
    ∗ (∃ d, owns (c : Thread nD τ) (ms_1 t) fullShare ((dats W c).before 1 t d))
    ∗ (∃ d, owns (c : Thread nD τ) (ms_2 t) fullShare ((dats W c).before 2 t d))
    ∗ (∃ d, owns (c : Thread nD τ) (ms_3 t) fullShare ((dats W c).before 3 t d))
    ∗ (∃ d, owns (c : Thread nD τ) (ms_4 t) fullShare ((dats W c).before 4 t d))
    ∗ (∃ d, owns (c : Thread nD τ) (ms_5 t) fullShare ((dats W c).before 5 t d))
    ∗ (∃ d, owns (c : Thread nD τ) (ms_6 t) fullShare ((dats W c).before 6 t d))
    ∗ (∃ d, owns (c : Thread nD τ) (ms_7 t) fullShare ((dats W c).before 7 t d)))

/-- and what it returns. -/
def bodyPost (c : Dev nD) (t : Fin cfg2.N) : sProp 𝕄 :=
  iprop((dats W c).Φ t.succ ∗ (dats W c).owesAt () t.succ
    ∗ (dats W c).leavesExact 0 t
    ∗ (dats W c).leavesExact 1 t
    ∗ (dats W c).leavesExact 2 t
    ∗ (dats W c).leavesExact 3 t
    ∗ (dats W c).leavesExact 4 t
    ∗ (dats W c).leavesExact 5 t
    ∗ (dats W c).leavesExact 6 t
    ∗ (dats W c).leavesExact 7 t)

set_option maxHeartbeats 9600000 in
/-- The body at any point: the inputs' memrefs hold their blocks, the point is in one of the cases, and that case's
    run applies; the invariant hands the body the carried scratch at what the point before left and takes it back at
    this point's contents. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3, before_4, before_5, before_6]
  rw [show (dats W c).owesAt () t.succ = (dats W c).owesAt () t.castSucc from rfl]
  rw [show (dats W c).Φ t.succ = PhiS W c (t.val + 1) t.isLt from rfl, PhiS_succ]
  have hN : t.val < 49 := lt_of_lt_of_eq t.isLt (show cfg2.N = 49 from N_2)
  by_cases h0 : t.val % 49 = 0
  · by_cases h1 : t.val % 49 = 48
    · exfalso; omega
    · rw [show (dats W c).leavesExact 0 t = owns (c : Thread nD τ) (ms_0 t) fullShare ((dats W c).after 0 t) from by
      unfold Dat.leavesExact; rw [liveAt_0 t], after_0]
      rw [show (dats W c).leavesExact 1 t = owns (c : Thread nD τ) (ms_1 t) fullShare ((dats W c).after 1 t) from by
      unfold Dat.leavesExact; rw [liveAt_1 t], after_1]
      rw [show (dats W c).leavesExact 2 t = owns (c : Thread nD τ) (ms_2 t) fullShare ((dats W c).after 2 t) from by
      unfold Dat.leavesExact; rw [liveAt_2 t], after_2]
      rw [show (dats W c).leavesExact 3 t = owns (c : Thread nD τ) (ms_3 t) fullShare ((dats W c).after 3 t) from by
      unfold Dat.leavesExact; rw [liveAt_3 t], after_3]
      rw [show (dats W c).leavesExact 4 t = owns (c : Thread nD τ) (ms_4 t) fullShare ((dats W c).after 4 t) from by
      unfold Dat.leavesExact; rw [liveAt_4 t], after_4]
      rw [show (dats W c).leavesExact 5 t = owns (c : Thread nD τ) (ms_5 t) fullShare ((dats W c).after 5 t) from by
      unfold Dat.leavesExact; rw [liveAt_5 t], after_5]
      rw [show (dats W c).leavesExact 6 t = owns (c : Thread nD τ) (ms_6 t) fullShare ((dats W c).after 6 t) from by
      unfold Dat.leavesExact; rw [liveAt_6 t], after_6]
      rw [Dat.leavesExact_idle (dats W c) 7 t (idleAt_7_A t ((hcond_0 t).mpr h0) (fun h => h1 ((hcond_1 t).mp h))) (noFlush_7_A t ((hcond_0 t).mpr h0) (fun h => h1 ((hcond_1 t).mp h)))]
      by_cases hz : t.val = 0
      · rw [PhiS_castSucc W c t, PhiS_zero W c _ _ hz, PhiA_eq]
        rw [outsAt_A W c t h0 h1]
        unfold sout_A_0 sout_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c t ((hcond_0 t).mpr h0) (fun h => h1 ((hcond_1 t).mp h)) (iblk W c 0 t) (iblk W c 1 t) (iblk W c 2 t) (iblk W c 3 t) (iblk W c 4 t) (iblk W c 5 t) (iblk W c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_A_0 c _ _ _ _ _ _ _ _ _ _)
            unfold owns; iexists _; isplitr
            swap; · iexact HS1
            ipureintro; exact View.read_writes_of_cover _ _ _ _ _ (scover_A_1 c _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; have hN : t.val < 49 := lt_of_lt_of_eq t.isLt (show cfg2.N = 49 from N_2); omega
  · by_cases h1 : t.val % 49 = 48
    · rw [show (dats W c).leavesExact 0 t = owns (c : Thread nD τ) (ms_0 t) fullShare ((dats W c).after 0 t) from by
      unfold Dat.leavesExact; rw [liveAt_0 t], after_0]
      rw [show (dats W c).leavesExact 1 t = owns (c : Thread nD τ) (ms_1 t) fullShare ((dats W c).after 1 t) from by
      unfold Dat.leavesExact; rw [liveAt_1 t], after_1]
      rw [show (dats W c).leavesExact 2 t = owns (c : Thread nD τ) (ms_2 t) fullShare ((dats W c).after 2 t) from by
      unfold Dat.leavesExact; rw [liveAt_2 t], after_2]
      rw [show (dats W c).leavesExact 3 t = owns (c : Thread nD τ) (ms_3 t) fullShare ((dats W c).after 3 t) from by
      unfold Dat.leavesExact; rw [liveAt_3 t], after_3]
      rw [show (dats W c).leavesExact 4 t = owns (c : Thread nD τ) (ms_4 t) fullShare ((dats W c).after 4 t) from by
      unfold Dat.leavesExact; rw [liveAt_4 t], after_4]
      rw [show (dats W c).leavesExact 5 t = owns (c : Thread nD τ) (ms_5 t) fullShare ((dats W c).after 5 t) from by
      unfold Dat.leavesExact; rw [liveAt_5 t], after_5]
      rw [show (dats W c).leavesExact 6 t = owns (c : Thread nD τ) (ms_6 t) fullShare ((dats W c).after 6 t) from by
      unfold Dat.leavesExact; rw [liveAt_6 t], after_6]
      rw [show (dats W c).leavesExact 7 t = owns (c : Thread nD τ) (ms_7 t) fullShare ((dats W c).after 7 t) from by
      unfold Dat.leavesExact; rw [liveAt_7_C t (fun h => h0 ((hcond_0 t).mp h)) ((hcond_1 t).mpr h1)], after_7]
      by_cases hz : t.val = 0
      · exfalso; have hN : t.val < 49 := lt_of_lt_of_eq t.isLt (show cfg2.N = 49 from N_2); omega
      · rw [PhiS_castSucc W c t, PhiS_pos W c _ _ hz]
        rw [outsAt_C W c t h0 h1]
        unfold out_C_7 sout_C_0 sout_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_C c t (fun h => h0 ((hcond_0 t).mp h)) ((hcond_1 t).mpr h1) (iblk W c 0 t) (iblk W c 1 t) (iblk W c 2 t) (iblk W c 3 t) (iblk W c 4 t) (iblk W c 5 t) (iblk W c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_C_0 c _ _ _ _ _ _ _ _ _ _ _ _)
            unfold owns; iexists _; isplitr
            swap; · iexact HS1
            ipureintro; exact View.read_writes_of_cover _ _ _ _ _ (scover_C_1 c _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover_C_7 c _ _ _ _ _ _ _ _ _ _ _ _)
    · rw [show (dats W c).leavesExact 0 t = owns (c : Thread nD τ) (ms_0 t) fullShare ((dats W c).after 0 t) from by
      unfold Dat.leavesExact; rw [liveAt_0 t], after_0]
      rw [show (dats W c).leavesExact 1 t = owns (c : Thread nD τ) (ms_1 t) fullShare ((dats W c).after 1 t) from by
      unfold Dat.leavesExact; rw [liveAt_1 t], after_1]
      rw [show (dats W c).leavesExact 2 t = owns (c : Thread nD τ) (ms_2 t) fullShare ((dats W c).after 2 t) from by
      unfold Dat.leavesExact; rw [liveAt_2 t], after_2]
      rw [show (dats W c).leavesExact 3 t = owns (c : Thread nD τ) (ms_3 t) fullShare ((dats W c).after 3 t) from by
      unfold Dat.leavesExact; rw [liveAt_3 t], after_3]
      rw [show (dats W c).leavesExact 4 t = owns (c : Thread nD τ) (ms_4 t) fullShare ((dats W c).after 4 t) from by
      unfold Dat.leavesExact; rw [liveAt_4 t], after_4]
      rw [show (dats W c).leavesExact 5 t = owns (c : Thread nD τ) (ms_5 t) fullShare ((dats W c).after 5 t) from by
      unfold Dat.leavesExact; rw [liveAt_5 t], after_5]
      rw [show (dats W c).leavesExact 6 t = owns (c : Thread nD τ) (ms_6 t) fullShare ((dats W c).after 6 t) from by
      unfold Dat.leavesExact; rw [liveAt_6 t], after_6]
      rw [Dat.leavesExact_idle (dats W c) 7 t (idleAt_7_B t (fun h => h0 ((hcond_0 t).mp h)) (fun h => h1 ((hcond_1 t).mp h))) (noFlush_7_B t (fun h => h0 ((hcond_0 t).mp h)) (fun h => h1 ((hcond_1 t).mp h)))]
      by_cases hz : t.val = 0
      · exfalso; have hN : t.val < 49 := lt_of_lt_of_eq t.isLt (show cfg2.N = 49 from N_2); omega
      · rw [PhiS_castSucc W c t, PhiS_pos W c _ _ hz]
        rw [outsAt_B W c t h0 h1]
        unfold sout_B_0 sout_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c t (fun h => h0 ((hcond_0 t).mp h)) (fun h => h1 ((hcond_1 t).mp h)) (iblk W c 0 t) (iblk W c 1 t) (iblk W c 2 t) (iblk W c 3 t) (iblk W c 4 t) (iblk W c 5 t) (iblk W c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover_B_0 c _ _ _ _ _ _ _ _ _ _ _ _)
            unfold owns; iexists _; isplitr
            swap; · iexact HS1
            ipureintro; exact View.read_writes_of_cover _ _ _ _ _ (scover_B_1 c _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The body's obligation, at every point: the triple above, restated. -/
theorem body_obligation (c : Dev nD) : BodyObligation (dats (F := F) W c) (defs₀ (F := F)) Variants.none () Set.univ := fun t => by
  rw [bigSep_W2, bigSep_W2, defs₀_row]
  exact triple_restated (sound_body W c t) rfl .rfl fun _ => .rfl

/-- What the launch hands the region (`ΦA`) is the invariant before the first point. -/
theorem hin (c : Dev nD) : Pipeline.ΦA spec2 c ⊢ (dats W c).Φ 0 := by
  rw [show (dats W c).Φ 0 = PhiS W c 0 (Nat.zero_le _) from rfl, PhiS_zero W c 0 _ rfl]
  try exact Idealize.SL.BI.Entails.refl _

/-- After any point but the first the invariant gives `ΦA` back: the carried scratch's named contents are forgotten. -/
theorem Phi_out (c : Dev nD) (t : Fin (cfg2.N + 1)) (ht : t.val ≠ 0) : (dats W c).Φ t ⊢ Pipeline.ΦA spec2 c := by
  rw [show (dats W c).Φ t = PhiS W c t.val (Nat.le_of_lt_succ t.isLt) from rfl, PhiS_pos W c _ _ ht, PhiA_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats W c).Φ (Fin.last cfg2.N) ⊢ Pipeline.ΦA spec2 c :=
  Phi_out W c _ (by rw [Fin.val_last]; have : cfg2.N = 49 := N_2; omega)

end Cert.KernelIdeal.R2

end
-- ==== Proof.KI.Run.lean ====
/- The whole program's run: the host operations before the kernel regions, then the three regions in order, each entered
   from every unscoped buffer at what the item before left. Every weakly fair execution ends with the arguments as
   launched, the result at the last region's output array, and every semaphore counter at zero. -/
module

public import proofs.«01_k».proof.Proof.Gen.KernelIdeal.Regions
public import proofs.«01_k».proof.Proof.KI.Region0
public import proofs.«01_k».proof.Proof.KI.Region1
public import proofs.«01_k».proof.Proof.KI.Region2
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers between the items -/

/-- Core `c`'s unscoped buffers when region 0 is entered: the launch contents after the host operations. -/
abbrev W5 (c : Dev nD) : Valuation τ sig (Elt F) := V5 m c
/-- After region 0, -/
def W6 (c : Dev nD) : Valuation τ sig (Elt F) := Pipeline.afterRegion (R0.dats (W5 m) c) (W5 m c)
/-- after region 1, -/
def W7 (c : Dev nD) : Valuation τ sig (Elt F) := Pipeline.afterRegion (R1.dats (W6 m) c) (W6 m c)
/-- after region 2. -/
def W8 (c : Dev nD) : Valuation τ sig (Elt F) := Pipeline.afterRegion (R2.dats (W7 m) c) (W7 m c)

/-- A buffer that is no output of a region passes it unchanged. -/
theorem W6_keeps (c : Dev nD) (r : Ref sig .tc) (h : ∀ w, Pipeline.arrRef spec0 w = r → (cfg0.win w).isOut = false) :
    W6 m c r = W5 m c r :=
  Pipeline.afterRegion_keeps (R0.dats (W5 m) c) (W5 m c) launch0.win.arr_inj (fun w => R0.A_eq (W5 m) c w) r h
theorem W7_keeps (c : Dev nD) (r : Ref sig .tc) (h : ∀ w, Pipeline.arrRef spec1 w = r → (cfg1.win w).isOut = false) :
    W7 m c r = W6 m c r :=
  Pipeline.afterRegion_keeps (R1.dats (W6 m) c) (W6 m c) launch1.win.arr_inj (fun w => R1.A_eq (W6 m) c w) r h
theorem W8_keeps (c : Dev nD) (r : Ref sig .tc) (h : ∀ w, Pipeline.arrRef spec2 w = r → (cfg2.win w).isOut = false) :
    W8 m c r = W7 m c r :=
  Pipeline.afterRegion_keeps (R2.dats (W7 m) c) (W7 m c) launch2.win.arr_inj (fun w => R2.A_eq (W7 m) c w) r h

/-- A region's output array holds what its write-backs leave. -/
theorem W6_gate (c : Dev nD) : W6 m c main_v6_0 = (R0.dats (W5 m) c).arrAt 4 cfg0.N :=
  Pipeline.afterRegion_arr (R0.dats (W5 m) c) (W5 m c) launch0.win.arr_inj 4
theorem W6_gmax (c : Dev nD) : W6 m c main_v6_1 = (R0.dats (W5 m) c).arrAt 5 cfg0.N :=
  Pipeline.afterRegion_arr (R0.dats (W5 m) c) (W5 m c) launch0.win.arr_inj 5
theorem W7_gsum (c : Dev nD) : W7 m c main_v7 = (R1.dats (W6 m) c).arrAt 3 cfg1.N :=
  Pipeline.afterRegion_arr (R1.dats (W6 m) c) (W6 m c) launch1.win.arr_inj 3
theorem W8_out (c : Dev nD) : W8 m c main_v8 = (R2.dats (W7 m) c).arrAt 7 cfg2.N :=
  Pipeline.afterRegion_arr (R2.dats (W7 m) c) (W7 m c) launch2.win.arr_inj 7

/-- No region writes a buffer that is none of the four output arrays. -/
theorem W8_arg (c : Dev nD) (r : Ref sig .tc) (h2 : ∀ w, Pipeline.arrRef spec2 w = r → (cfg2.win w).isOut = false)
    (h1 : ∀ w, Pipeline.arrRef spec1 w = r → (cfg1.win w).isOut = false)
    (h0 : ∀ w, Pipeline.arrRef spec0 w = r → (cfg0.win w).isOut = false)
    (h : r ∉ hostOps0_W ∧ r ∉ hostOps0_1_W ∧ r ∉ hostOps0_2_W ∧ r ∉ hostOps0_3_W ∧ r ∉ hostOps0_4_W) :
    W8 m c r = m ((c : Thread nD τ).loc r) :=
  (W8_keeps m c r h2).trans <| (W7_keeps m c r h1).trans <| (W6_keeps m c r h0).trans <|
    (V5_of m c r h.2.2.2.2).trans <| (V4_of m c r h.2.2.2.1).trans <| (V3_of m c r h.2.2.1).trans <|
    (V2_of m c r h.2.1).trans <| (V1_of m c r h.1).trans rfl

/-! ## The regions' records -/

/-- Every TensorCore cell is at the one level; no other core has any. -/
def L (g : GSem nD τ sig) : Finset Unit := if g.1.2 = .tc then {()} else ∅
def lv : GSem nD τ sig → Unit → ℕ := fun _ _ => 0

/-- The proof data of the three pipelines, each over what the item before left. -/
def pdats : (p : Fin 3) → (c : Dev nD) → Dat τ (Elt F) Unit ℕ (UR sig nD τ) ℕ (cfgs p) c
  | ⟨0, _⟩ => fun c => R0.dats (W5 m) c
  | ⟨1, _⟩ => fun c => R1.dats (W6 m) c
  | ⟨2, _⟩ => fun c => R2.dats (W7 m) c

/-- What rides along beside the buffers between two items. -/
def E (c : Dev nD) : sProp 𝕄 := iprop((∃ Wd, owes (c : Thread nD τ) (0 : CellTallies nD τ sig Unit) Wd) ∗ (∃ r, prngReg c r) ∗ BI.emp)

theorem cut (p : Fin 3) : Pipeline.LevelCut (pcfgs (F := F)) adm () L lv p (fun _ => (0 : CellTallies nD τ sig Unit)) (fun _ => 0) where
  hι c w s := by
    show () ∈ L _
    unfold L; rw [if_pos rfl]; exact Finset.mem_singleton_self _
  hιb c w s := le_refl _
  hD c g i h := absurd h (lt_irrefl _)

set_option backward.isDefEq.respectTransparency.types false in
/-- Region 0's record. -/
def seg0r : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (R0.body_obligation (W5 m) c).loose) (fun _ _ => rfl) (fun _ => rfl) (fun c => (R0.dats (W5 m) c).share_full fun _ => rfl)
    (fun c => show _ ⊢ Pipeline.ΦA spec0 c from .rfl) (fun c => show Pipeline.ΦA spec0 c ⊢ _ from .rfl)
    (fun _ => 0) (cut 0) (fun _ => BI.emp) (W5 m) (fun c w => R0.A_eq (W5 m) c w)

set_option backward.isDefEq.respectTransparency.types false in
/-- Region 1's record. -/
def seg1r : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (R1.body_obligation (W6 m) c).loose) (fun _ _ => rfl) (fun _ => rfl) (fun c => (R1.dats (W6 m) c).share_full fun _ => rfl)
    (fun c => show _ ⊢ Pipeline.ΦA spec1 c from .rfl) (fun c => show Pipeline.ΦA spec1 c ⊢ _ from .rfl)
    (fun _ => 0) (cut 1) (fun _ => BI.emp) (W6 m) (fun c w => R1.A_eq (W6 m) c w)

set_option backward.isDefEq.respectTransparency.types false in
/-- Region 2's record: its invariant carries the accumulators from point to point. -/
def seg2r : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) (launch2.toP) rfl
    (fun c => (R2.body_obligation (W7 m) c).loose) (fun _ _ => rfl) (fun _ => rfl) (fun c => (R2.dats (W7 m) c).share_full fun _ => rfl)
    (fun c => R2.hin (W7 m) c) (fun c => R2.hout (W7 m) c)
    (fun _ => 0) (cut 2) (fun _ => BI.emp) (W7 m) (fun c w => R2.A_eq (W7 m) c w)

/-! ## The run -/

theorem sub0 : Pipeline.arrRefs (τ := τ) (pcfgs (F := F) 0).spec ⊆ Pipeline.ucRefs τ sig :=
  Pipeline.arrRefs_sub_ucRefs _ (show ∀ w, (Pipeline.arrRef spec0 w).isScoped = false by decide)
theorem sub1 : Pipeline.arrRefs (τ := τ) (pcfgs (F := F) 1).spec ⊆ Pipeline.ucRefs τ sig :=
  Pipeline.arrRefs_sub_ucRefs _ (show ∀ w, (Pipeline.arrRef spec1 w).isScoped = false by decide)
theorem sub2 : Pipeline.arrRefs (τ := τ) (pcfgs (F := F) 2).spec ⊆ Pipeline.ucRefs τ sig :=
  Pipeline.arrRefs_sub_ucRefs _ (show ∀ w, (Pipeline.arrRef spec2 w).isScoped = false by decide)

theorem pre0 (c : Dev nD) : iprop(StableHlo.held (c : Thread nD τ) (Pipeline.ucRefs τ sig) (V5 m c) ∗ E c) ⊢ (seg0r m).pre c := by
  unfold E seg0r
  exact RegionSeg.ofHeldIn_pre (p := (0 : Fin 3)) (D := fun _ => 0) (X := fun c => iprop(∃ r, prngReg c r))
    (R := fun _ => BI.emp) (W := W5 m) (sub0 (F := F)) c
theorem post0 (c : Dev nD) : (seg0r m).post c ⊢ iprop(StableHlo.held (c : Thread nD τ) (Pipeline.ucRefs τ sig) (W6 m c) ∗ E c) :=
  RegionSeg.ofHeldIn_post (p := (0 : Fin 3)) (sub0 (F := F)) c
theorem pre1 (c : Dev nD) : iprop(StableHlo.held (c : Thread nD τ) (Pipeline.ucRefs τ sig) (W6 m c) ∗ E c) ⊢ (seg1r m).pre c := by
  unfold E seg1r
  exact RegionSeg.ofHeldIn_pre (p := (1 : Fin 3)) (D := fun _ => 0) (X := fun c => iprop(∃ r, prngReg c r))
    (R := fun _ => BI.emp) (W := W6 m) (sub1 (F := F)) c
theorem post1 (c : Dev nD) : (seg1r m).post c ⊢ iprop(StableHlo.held (c : Thread nD τ) (Pipeline.ucRefs τ sig) (W7 m c) ∗ E c) :=
  RegionSeg.ofHeldIn_post (p := (1 : Fin 3)) (sub1 (F := F)) c
theorem pre2 (c : Dev nD) : iprop(StableHlo.held (c : Thread nD τ) (Pipeline.ucRefs τ sig) (W7 m c) ∗ E c) ⊢ (seg2r m).pre c := by
  unfold E seg2r
  exact RegionSeg.ofHeldIn_pre (p := (2 : Fin 3)) (D := fun _ => 0) (X := fun c => iprop(∃ r, prngReg c r))
    (R := fun _ => BI.emp) (W := W7 m) (sub2 (F := F)) c
theorem post2 (c : Dev nD) : (seg2r m).post c ⊢ iprop(StableHlo.held (c : Thread nD τ) (Pipeline.ucRefs τ sig) (W8 m c) ∗ E c) :=
  RegionSeg.ofHeldIn_post (p := (2 : Fin 3)) (sub2 (F := F)) c

/-- The launch gives every core what rides along. -/
theorem launch_rest :
    iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts L lv)
      ⊢ (|={Set.univ}=> bigSep Finset.univ (fun c : Dev nD => E c) : sProp 𝕄) := by
  have h : (bigSep Finset.univ fun c : Dev nD => iprop(unscopedSems0 c ∗ owes (c : Thread nD τ) (0 : CellTallies nD τ sig Unit) ∅
        ∗ Pipeline.launchCred (fun _ => 0) c ∗ prngReg c (ρ c) ∗ BI.emp))
      ⊢ (bigSep Finset.univ (fun c : Dev nD => E c) : sProp 𝕄) :=
    bigSep_mono fun c _ => show _ ⊢ (E c : sProp 𝕄) by
      unfold E
      iintro ⟨-, HO, -, Hp, -⟩
      isplitl [HO]; · iexists _; iexact HO
      isplitl [Hp]; · iexists _; iexact Hp
      iempintro
  iintro ⟨H, -⟩
  imodintro
  iapply h
  iexact H

set_option backward.isDefEq.respectTransparency.types false in
/-- Every weakly fair execution of @main from memory `m` with zero counters terminates, and every final state holds each
    unscoped buffer at the last valuation, with every semaphore counter at zero. -/
theorem run : θ_run defs (onTc (τ := τ) (main (F := F))) ⟨m, fun _ => 0, ρ⟩ (fun r => (∀ c : Dev nD,
      r.2.mem ((c.tc : Thread nD τ).loc main_v8) = (R2.dats (W7 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (pdats m) () cellOf_inj emb₁ defs₀ Variants.none L lv m ρ main
    (segs m Variants.none L lv (fun _ => E) () (pdats m) (seg0r m) (seg1r m) (seg2r m))
    (fun c Q => by
      rewrite [main_chain c, Seg.run_eq_chain,
        show (segs m Variants.none L lv (fun _ => E) () (pdats m) (seg0r m) (seg1r m) (seg2r m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0)
    (fun g hg => by unfold L; rw [if_neg hg]) (fun _ => BI.emp)
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (W8 m c))
    (hch := fun c => ⟨.rfl, .rfl, .rfl, .rfl, .rfl, pre0 m c, (post0 m c).trans (pre1 m c), (post1 m c).trans (pre2 m c),
      (post2 m c).trans (sep_mono .rfl (by unfold E; iintro ⟨HO, -⟩; iexact HO))⟩)
    (hinit := ?_) (QY := fun c s => s.mem ((c.tc : Thread nD τ).loc main_v8) = (R2.dats (W7 m) c).arrAt 7 cfg2.N
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      have rd : ∀ r : Ref sig .tc, (¬ (Proc.devRef .tc r : DevRef τ sig).isScoped) → s'.mem.mem ((c.tc : Thread nD τ).loc r) = W8 m c r :=
        fun r hr => h (Proc.devRef .tc r) (Finset.mem_filter.mpr ⟨StableHlo.devRef_mem_tcRefs r, hr⟩)
      exact ⟨(rd main_v8 (by decide)).trans (W8_out m c),
        (rd main_arg0 (by decide)).trans (W8_arg m c main_arg0 (by decide) (by decide) (by decide) (by decide)),
        (rd main_arg1 (by decide)).trans (W8_arg m c main_arg1 (by decide) (by decide) (by decide) (by decide)),
        (rd main_arg2 (by decide)).trans (W8_arg m c main_arg2 (by decide) (by decide) (by decide) (by decide)),
        (rd main_arg3 (by decide)).trans (W8_arg m c main_arg3 (by decide) (by decide) (by decide) (by decide)),
        (rd main_arg4 (by decide)).trans (W8_arg m c main_arg4 (by decide) (by decide) (by decide) (by decide)),
        (rd main_arg5 (by decide)).trans (W8_arg m c main_arg5 (by decide) (by decide) (by decide) (by decide))⟩
    · iexact HSI

end Cert.KernelIdeal.Run

end
-- ==== Proof.Frames.lean ====
/- The claims that state no result: each program runs, leaves its arguments as they were and every semaphore counter at
   zero, and the named constant is the one rewrite between the kernel and its idealization. -/
module

public import proofs.«01_k».proof.Defs
public import proofs.«01_k».proof.Proof.KB.Run
public import proofs.«01_k».proof.Proof.KI.Run
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

theorem frame_p : Cert.quiescent_Kernel := fun m ρ _ =>
  (θ_run Cert.Kernel.defs _ _).mono (fun _ h => ⟨fun c => (h.1 c).2, h.2⟩) (Cert.Kernel.Run.run (F := Bits) m ρ)

theorem frame_pi : Cert.quiescent_KernelIdeal := fun m ρ _ =>
  (θ_run Cert.KernelIdeal.defs _ _).mono (fun _ h => ⟨fun c => (h.1 c).2, h.2⟩) (Cert.KernelIdeal.Run.run (F := Ideal) m ρ)

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The table gives `"mask"` the value `⊥`, and the printed constant is that value. -/
theorem preserves : Cert.preserves_Kernel_KernelIdeal :=
  IdealRules.named_const.statement Cert.KernelIdeal.κ "mask" .f32 0xF149F2CA#32 ⊥ rfl

end Cert.Frames

end
-- ==== Proof.KI.Host.lean ====
/- The arrays the kernel regions are entered with, entry by entry, in terms of the arguments: the rows padded by zeros
   behind the last, the segment words padded by −1 and read as extended reals, and the two biases as one-row matrices. -/
module

public import proofs.«01_k».proof.Proof.KI.Run
public import Idealize.ShloMosaic.Lib.StableHlo.Run
public import Idealize.ShloMosaic.Lib.Pointwise
public import Idealize.ShloMosaic.PureOps

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.Pointwise

variable (m : (ℓ : Loc nD τ sig) → Buf (Elt Ideal) ℓ) (c : Dev nD)

/-- The rows behind the padding. -/
theorem W5_rows : (W5 m c main_v0 : FVec Ideal S100352x128 .f32)
    = pad S100352x128 ![0, 0] ![352, 0] ![0, 0] (m (c, main_arg0) : FVec Ideal S100000x128 .f32)
        (sitofp .f32 (constantI S_ 32 0#32) : FVec Ideal S_ .f32) pads_S100000x128_S100352x128_03520_000 h_S_ := by
  unfold W5
  rw [V5_of m c main_v0 (by decide), V4_of m c main_v0 (by decide), V3_of m c main_v0 (by decide)]
  show after hostOps0_1 (after hostOps0 (fun b => m (c, b))) main_v0 = _
  simp only [hostOps0, hostOps0_1, TRef.unary, TRef.binary, TRef.toBuf, TRef.ofBuf, cast_eq]
  after_results_simp

/-- The segment words behind the padding. -/
theorem W5_words : (W5 m c main_v3 : FVec Ideal S100352x1 .f32)
    = shapeCast S100352x1 (sitofp .f32 (pad S100352 ![0] ![352] ![0] (m (c, main_arg1) : IVec S100000 32)
        (constantI S_ 32 4294967295#32) pads_S100000_S100352_03520 h_S_) : FVec Ideal S100352 .f32) shapeCasts_S100352_S100352x1 := by
  unfold W5
  show after hostOps0_4 (after hostOps0_3 (after hostOps0_2 (V2 m c))) main_v3 = _
  simp only [hostOps0_2, hostOps0_3, hostOps0_4, TRef.unary, TRef.binary, TRef.toBuf, TRef.ofBuf, cast_eq]
  after_results_simp
  rfl

/-- The gate's bias as a matrix. -/
theorem W5_bg : (W5 m c main_v4 : FVec Ideal S1x1 .f32) = shapeCast S1x1 (m (c, main_arg3) : FVec Ideal S1 .f32) shapeCasts_S1_S1x1 := by
  unfold W5
  show after hostOps0_4 (V4 m c) main_v4 = _
  simp only [hostOps0_4]
  after_results_simp
  rfl

/-- The projection's bias as a matrix. -/
theorem W5_bm : (W5 m c main_v5 : FVec Ideal S1x128 .f32) = shapeCast S1x128 (m (c, main_arg5) : FVec Ideal S128 .f32) shapeCasts_S128_S1x128 := by
  unfold W5
  show after hostOps0_4 (V4 m c) main_v5 = _
  simp only [hostOps0_4]
  after_results_simp
  rfl

theorem W5_wg : W5 m c main_arg2 = m (c, main_arg2) :=
  (V5_of m c main_arg2 (by decide)).trans <| (V4_of m c main_arg2 (by decide)).trans <| (V3_of m c main_arg2 (by decide)).trans <|
    (V2_of m c main_arg2 (by decide)).trans (V1_of m c main_arg2 (by decide))

theorem W5_wm : W5 m c main_arg4 = m (c, main_arg4) :=
  (V5_of m c main_arg4 (by decide)).trans <| (V4_of m c main_arg4 (by decide)).trans <| (V3_of m c main_arg4 (by decide)).trans <|
    (V2_of m c main_arg4 (by decide)).trans (V1_of m c main_arg4 (by decide))

/-! ## At an index -/

theorem pad_rows_in (x : FVec Ideal S100000x128 .f32) (i : Fin 100000) (k : Fin 128) :
    pad S100352x128 ![0, 0] ![352, 0] ![0, 0] x (sitofp .f32 (constantI S_ 32 0#32) : FVec Ideal S_ .f32)
      pads_S100000x128_S100352x128_03520_000 h_S_ (ix2 ⟨i.val, by omega⟩ k) = x (ix2 i k) := by
  pointwise

theorem pad_words_in (x : IVec S100000 32) (i : Fin 100000) :
    (shapeCast S100352x1 (sitofp .f32 (pad S100352 ![0] ![352] ![0] x (constantI S_ 32 4294967295#32) pads_S100000_S100352_03520 h_S_)
      : FVec Ideal S100352 .f32) shapeCasts_S100352_S100352x1) (ix2 ⟨i.val, by omega⟩ 0) = (((x (ix1 i)).toInt : ℝ) : EReal) := by
  pointwise
  rfl

theorem pad_words_out (x : IVec S100000 32) (r : Fin 100352) (h : 100000 ≤ r.val) :
    (shapeCast S100352x1 (sitofp .f32 (pad S100352 ![0] ![352] ![0] x (constantI S_ 32 4294967295#32) pads_S100000_S100352_03520 h_S_)
      : FVec Ideal S100352 .f32) shapeCasts_S100352_S100352x1) (ix2 r 0) = (((-1 : ℤ) : ℝ) : EReal) := by
  pointwise
  rw [dif_neg (by omega)]
  show (((4294967295#32 : BitVec 32).toInt : ℝ) : EReal) = _
  rw [show (4294967295#32 : BitVec 32).toInt = -1 from by decide]

theorem bg_row (x : FVec Ideal S1 .f32) : shapeCast S1x1 x shapeCasts_S1_S1x1 (ix2 0 0) = x (ix1 0) := by
  pointwise

theorem bm_row (x : FVec Ideal S128 .f32) (d : Fin 128) : shapeCast S1x128 x shapeCasts_S128_S1x128 (ix2 0 d) = x (ix1 d) := by
  pointwise

end Cert.KernelIdeal.Run
-- ==== Proof.Consts.lean ====
/- The float words that the programs spell, read in the extended reals, and the whole numbers of a lane. -/
module

public import proofs.«01_k».proof.Proof.Gen.KernelIdeal.Skeleton
public import Idealize.ShloMosaic.Lib.Pointwise

@[expose] public section

noncomputable section

namespace Cert.Consts
open Idealize.ShloMosaic

theorem c128 : Ideal.ofBits .f32 0x43000000#32 = ((128 : ℕ) : EReal) := by
  rw [← EReal.coe_natCast]; simp [Ideal.ofBits, Ideal.ieee, -EReal.coe_mul]; norm_num
theorem c256 : Ideal.ofBits .f32 0x43800000#32 = ((256 : ℕ) : EReal) := by
  rw [← EReal.coe_natCast]; simp [Ideal.ofBits, Ideal.ieee, -EReal.coe_mul]; norm_num
theorem c384 : Ideal.ofBits .f32 0x43C00000#32 = ((384 : ℕ) : EReal) := by
  rw [← EReal.coe_natCast]; simp [Ideal.ofBits, Ideal.ieee, -EReal.coe_mul]; norm_num
theorem c512 : Ideal.ofBits .f32 0x44000000#32 = ((512 : ℕ) : EReal) := by
  rw [← EReal.coe_natCast]; simp [Ideal.ofBits, Ideal.ieee, -EReal.coe_mul]; norm_num
theorem c640 : Ideal.ofBits .f32 0x44200000#32 = ((640 : ℕ) : EReal) := by
  rw [← EReal.coe_natCast]; simp [Ideal.ofBits, Ideal.ieee, -EReal.coe_mul]; norm_num
theorem c768 : Ideal.ofBits .f32 0x44400000#32 = ((768 : ℕ) : EReal) := by
  rw [← EReal.coe_natCast]; simp [Ideal.ofBits, Ideal.ieee, -EReal.coe_mul]; norm_num
theorem c896 : Ideal.ofBits .f32 0x44600000#32 = ((896 : ℕ) : EReal) := by
  rw [← EReal.coe_natCast]; simp [Ideal.ofBits, Ideal.ieee, -EReal.coe_mul]; norm_num
theorem c0 : Ideal.ofBits .f32 0x00000000#32 = 0 := by simp [Ideal.ofBits, Ideal.ieee]
theorem c1 : Ideal.ofBits .f32 0x3F800000#32 = 1 := by
  rw [← EReal.coe_one]; simp [Ideal.ofBits, Ideal.ieee, -EReal.coe_mul, -EReal.coe_one]; try norm_num
theorem cbot : Ideal.ofBits .f32 0xFF800000#32 = ⊥ := by simp [Ideal.ofBits, Ideal.ieee]
theorem ctop : Ideal.ofBits .f32 0x7F800000#32 = ⊤ := by simp [Ideal.ofBits, Ideal.ieee]

/-- The small constant under the quotient, as both programs spell it. -/
def eps : EReal := Ideal.ofBits .f32 0x2EDBE6FF#32

/-- It is a positive real. -/
theorem eps_pos : ∃ r : ℝ, 0 < r ∧ eps = ((r : ℝ) : EReal) := by
  refine ⟨_, ?_, by simp only [eps, Ideal.ofBits, Ideal.ieee]; rfl⟩
  simp
  try norm_num

/-- A lane's number, cast to a float. -/
theorem lane (l : ℕ) (h : l < 2 ^ 31) : (FloatOps.sitofp (F := Ideal) .f32 (BitVec.ofNat 32 l) : EReal) = ((l : ℕ) : EReal) := by
  show (((BitVec.ofNat 32 l).toInt : ℝ) : EReal) = _
  have : (BitVec.ofNat 32 l).toInt = (l : ℤ) := by
    rw [BitVec.toInt_ofNat']; simp only [Int.bmod_def]; omega
  rw [this]; simp [← EReal.coe_natCast]

/-- A member bit, cast to a float. -/
theorem bit (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

theorem laneF (l : Fin 128) : (FloatOps.sitofp (F := Ideal) .f32 (BitVec.ofNat 32 l.val) : EReal) = ((l.val : ℕ) : EReal) :=
  lane l.val (by have := l.isLt; omega)

/-- The named constant of the kernels is the bottom element. -/
theorem mask : (Named.named (F := Ideal) Cert.KernelIdeal.κ "mask" (φ := .f32) 0xF149F2CA#32 : EReal) = ⊥ :=
  IdealRules.named_const.ideal_named_scalar _ _ _ _ rfl

/-- One row of 128 lanes of a table, picked by a float index: lane `l` is number `l + n`. -/
def bandSum (v : EReal) (n : ℕ) (t : Fin 128 → EReal) : EReal :=
  ∑ l : Fin 128, (if v = ((l.val + n : ℕ) : EReal) then 1 else 0) * t l

/-- An 8 × 128 table read at a float index by the sum over all its entries. -/
def pick (tab : Fin 8 → Fin 128 → EReal) (v : EReal) : EReal :=
  0 + bandSum v 0 (tab 0) + bandSum v 128 (tab 1) + bandSum v 256 (tab 2) + bandSum v 384 (tab 3) + bandSum v 512 (tab 4)
    + bandSum v 640 (tab 5) + bandSum v 768 (tab 6) + bandSum v 896 (tab 7)

theorem bandSum_hit (s n : ℕ) (t : Fin 128 → EReal) (l : Fin 128) (h : s = l.val + n) : bandSum ((s : ℕ) : EReal) n t = t l := by
  subst h
  unfold bandSum
  rw [Finset.sum_eq_single l]
  · simp
  · intro k _ hk
    rw [if_neg, zero_mul]
    intro h
    have := EReal.coe_injective (by simpa only [← EReal.coe_natCast] using h)
    have := Nat.cast_injective (R := ℝ) this
    exact hk (Fin.ext (by omega))
  · simp

theorem bandSum_miss (s n : ℕ) (t : Fin 128 → EReal) (h : s < n ∨ n + 128 ≤ s) : bandSum ((s : ℕ) : EReal) n t = 0 := by
  unfold bandSum
  refine Finset.sum_eq_zero fun l _ => ?_
  rw [if_neg, zero_mul]
  intro e
  have := EReal.coe_injective (by simpa only [← EReal.coe_natCast] using e)
  have := Nat.cast_injective (R := ℝ) this
  have := l.isLt
  omega

/-- At the number of an entry the sum is the entry. -/
theorem pick_hit (tab : Fin 8 → Fin 128 → EReal) (b : Fin 8) (l : Fin 128) (s : ℕ) (h : s = l.val + 128 * b.val) :
    pick tab ((s : ℕ) : EReal) = tab b l := by
  have hl := l.isLt
  unfold pick
  match b, h with
  | 0, h =>
    replace h : s = l.val + 0 := h
    rw [bandSum_hit s 0 _ l h, bandSum_miss s 128 _ (by omega), bandSum_miss s 256 _ (by omega), bandSum_miss s 384 _ (by omega), bandSum_miss s 512 _ (by omega), bandSum_miss s 640 _ (by omega), bandSum_miss s 768 _ (by omega), bandSum_miss s 896 _ (by omega)]
    simp only [zero_add, add_zero]
  | 1, h =>
    replace h : s = l.val + 128 := h
    rw [bandSum_hit s 128 _ l h, bandSum_miss s 0 _ (by omega), bandSum_miss s 256 _ (by omega), bandSum_miss s 384 _ (by omega), bandSum_miss s 512 _ (by omega), bandSum_miss s 640 _ (by omega), bandSum_miss s 768 _ (by omega), bandSum_miss s 896 _ (by omega)]
    simp only [zero_add, add_zero]
  | 2, h =>
    replace h : s = l.val + 256 := h
    rw [bandSum_hit s 256 _ l h, bandSum_miss s 0 _ (by omega), bandSum_miss s 128 _ (by omega), bandSum_miss s 384 _ (by omega), bandSum_miss s 512 _ (by omega), bandSum_miss s 640 _ (by omega), bandSum_miss s 768 _ (by omega), bandSum_miss s 896 _ (by omega)]
    simp only [zero_add, add_zero]
  | 3, h =>
    replace h : s = l.val + 384 := h
    rw [bandSum_hit s 384 _ l h, bandSum_miss s 0 _ (by omega), bandSum_miss s 128 _ (by omega), bandSum_miss s 256 _ (by omega), bandSum_miss s 512 _ (by omega), bandSum_miss s 640 _ (by omega), bandSum_miss s 768 _ (by omega), bandSum_miss s 896 _ (by omega)]
    simp only [zero_add, add_zero]
  | 4, h =>
    replace h : s = l.val + 512 := h
    rw [bandSum_hit s 512 _ l h, bandSum_miss s 0 _ (by omega), bandSum_miss s 128 _ (by omega), bandSum_miss s 256 _ (by omega), bandSum_miss s 384 _ (by omega), bandSum_miss s 640 _ (by omega), bandSum_miss s 768 _ (by omega), bandSum_miss s 896 _ (by omega)]
    simp only [zero_add, add_zero]
  | 5, h =>
    replace h : s = l.val + 640 := h
    rw [bandSum_hit s 640 _ l h, bandSum_miss s 0 _ (by omega), bandSum_miss s 128 _ (by omega), bandSum_miss s 256 _ (by omega), bandSum_miss s 384 _ (by omega), bandSum_miss s 512 _ (by omega), bandSum_miss s 768 _ (by omega), bandSum_miss s 896 _ (by omega)]
    simp only [zero_add, add_zero]
  | 6, h =>
    replace h : s = l.val + 768 := h
    rw [bandSum_hit s 768 _ l h, bandSum_miss s 0 _ (by omega), bandSum_miss s 128 _ (by omega), bandSum_miss s 256 _ (by omega), bandSum_miss s 384 _ (by omega), bandSum_miss s 512 _ (by omega), bandSum_miss s 640 _ (by omega), bandSum_miss s 896 _ (by omega)]
    simp only [zero_add, add_zero]
  | 7, h =>
    replace h : s = l.val + 896 := h
    rw [bandSum_hit s 896 _ l h, bandSum_miss s 0 _ (by omega), bandSum_miss s 128 _ (by omega), bandSum_miss s 256 _ (by omega), bandSum_miss s 384 _ (by omega), bandSum_miss s 512 _ (by omega), bandSum_miss s 640 _ (by omega), bandSum_miss s 768 _ (by omega)]
    simp only [zero_add, add_zero]

end Cert.Consts
end
-- ==== Proof.KI.Step0.lean ====
/- Kernel region 0: what one grid point does to its two outputs, read at an index. -/
module

public import proofs.«01_k».proof.Proof.KI.Region0
public import proofs.«01_k».proof.Proof.Consts
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.R0
open Cert.KernelIdeal Cert.KernelIdeal.Gen
open Idealize.ShloMosaic Idealize.ShloMosaic.TcCoe
open Cert.Consts

/-- The segment that entry `(b, l)` of an 8 × 128 table stands for. -/
def seg (y : S8x128.Idx) : ℕ := 128 * (y 0).val + (y 1).val

/-- The gate of row `q` of a block. -/
def gateB (x0 : Vec Ideal S2048x128 .f32) (x2 : Vec Ideal S128x1 .f32) (x3 : Vec Ideal S1x1 .f32) (q : Fin 2048) : EReal :=
  ∑ k : Fin 128, x0 (ix2 q k) * x2 (ix2 k 0) + x3 (ix2 0 0)

theorem pay4 (x0 : Vec Ideal S2048x128 .f32) (x2 : Vec Ideal S128x1 .f32) (x3 : Vec Ideal S1x1 .f32) (q : Fin 2048) (z : Fin 1) :
    k0_pay4 x0 x2 x3 (ix2 q z) = gateB x0 x2 x3 q := by
  obtain rfl : z = 0 := Subsingleton.elim _ _
  pointwise [k0_pay4]
  rfl

/-- The maximum of the gates of the rows of a block whose index is `s`. -/
def maxB (x1 : Vec Ideal S2048x1 .f32) (g : Fin 2048 → EReal) (s : ℕ) : EReal :=
  Finset.univ.sup fun q : Fin 2048 => if x1 (ix2 q 0) = ((s : ℕ) : EReal) then g q else ⊥

theorem band (x1 : Vec Ideal S2048x1 .f32) (x0 : Vec Ideal S2048x128 .f32) (x2 : Vec Ideal S128x1 .f32) (x3 : Vec Ideal S1x1 .f32)
    (a b : EReal) (n : EReal) (s : ℕ) (d : ∀ q : Fin 2048, Decidable (x1 (ix2 q 0) = n)) (hi : a = b) (hn : n = ((s : ℕ) : EReal)) :
    max a (Finset.fold max (Ideal.ofBits FTy.f32 4286578688#32)
        (fun q : Fin 2048 => @ite _ (x1 (ix2 q 0) = n) (d q) (k0_pay4 x0 x2 x3 (ix2 q 0)) (Ideal.ofBits FTy.f32 4286578688#32)) Finset.univ)
      = max b (maxB x1 (gateB x0 x2 x3) s) := by
  subst hi hn
  simp only [pay4, cbot]
  unfold maxB Finset.sup
  congr 1
  refine Finset.fold_congr fun q _ => ?_
  congr

theorem out4_A (c : Dev nD) (t : Fin cfg0.N) (hc0 : cond_0 (grid0.coords t))
    (x0 : Vec Ideal S2048x128 .f32) (x1 : Vec Ideal S2048x1 .f32) (x2 : Vec Ideal S128x1 .f32) (x3 : Vec Ideal S1x1 .f32)
    (q : Fin 2048) (z : Fin 1) : out_A_4 c t hc0 x0 x1 x2 x3 (ix2 q z) = gateB x0 x2 x3 q := by
  unfold out_A_4 kernelRun_A bodyRun_A; dsimp only; frame_out
  exact pay4 x0 x2 x3 q z

theorem out4_B (c : Dev nD) (t : Fin cfg0.N) (hc0 : ¬cond_0 (grid0.coords t))
    (x0 : Vec Ideal S2048x128 .f32) (x1 : Vec Ideal S2048x1 .f32) (x2 : Vec Ideal S128x1 .f32) (x3 : Vec Ideal S1x1 .f32)
    (xo5 : Vec Ideal S8x128 .f32) (q : Fin 2048) (z : Fin 1) : out_B_4 c t hc0 x0 x1 x2 x3 xo5 (ix2 q z) = gateB x0 x2 x3 q := by
  unfold out_B_4 kernelRun_B bodyRun_B; dsimp only; frame_out
  exact pay4 x0 x2 x3 q z

section Bands
variable (x0 : Vec Ideal S2048x128 .f32) (x1 : Vec Ideal S2048x1 .f32) (x2 : Vec Ideal S128x1 .f32) (x3 : Vec Ideal S1x1 .f32)
    (xo5 : Vec Ideal S8x128 .f32)

theorem row0 (x : S1x128.Idx) (y : S8x128.Idx) (h0 : (y 0).val = (x 0).val) (h1 : (y 1).val = (x 1).val) :
    k0_pay7 x0 x2 x3 x1 (View.ld xo5 (Rect.unit ![0, 0] ![1, 128] inb_S8x128_S1x128_0_0)) x
      = max (xo5 y) (maxB x1 (gateB x0 x2 x3) (seg y)) := by
  have x0_lt : (x 0).val < 1 := (x 0).isLt
  have x1_lt : (x 1).val < 128 := (x 1).isLt
  pointwise [k0_pay7, k0_pay8, k0_pay9, k0_pay5, k0_pay6]
  refine band x1 x0 x2 x3 _ _ _ _ _ (congrArg xo5 (by blk_ext)) ?_
  rw [lane _ (by omega)]; congr 1; unfold seg; omega

theorem row1 (x : S1x128.Idx) (y : S8x128.Idx) (h0 : (y 0).val = 1 + (x 0).val) (h1 : (y 1).val = (x 1).val) :
    k0_pay10 (k0_pay6 x0 x2 x3) k0_pay8 (k0_pay9 x1) (View.ld xo5 (Rect.unit ![1, 0] ![1, 128] inb_S8x128_S1x128_1_0)) x
      = max (xo5 y) (maxB x1 (gateB x0 x2 x3) (seg y)) := by
  have x0_lt : (x 0).val < 1 := (x 0).isLt
  have x1_lt : (x 1).val < 128 := (x 1).isLt
  pointwise [k0_pay10, k0_pay8, k0_pay9, k0_pay5, k0_pay6]
  refine band x1 x0 x2 x3 _ _ _ _ _ (congrArg xo5 (by blk_ext)) ?_
  rw [lane _ (by omega), c128, ← Nat.cast_add]; congr 1; unfold seg; omega

theorem row2 (x : S1x128.Idx) (y : S8x128.Idx) (h0 : (y 0).val = 2 + (x 0).val) (h1 : (y 1).val = (x 1).val) :
    k0_pay11 (k0_pay5 x1) (k0_pay6 x0 x2 x3) (View.ld xo5 (Rect.unit ![2, 0] ![1, 128] inb_S8x128_S1x128_2_0)) x
      = max (xo5 y) (maxB x1 (gateB x0 x2 x3) (seg y)) := by
  have x0_lt : (x 0).val < 1 := (x 0).isLt
  have x1_lt : (x 1).val < 128 := (x 1).isLt
  pointwise [k0_pay11, k0_pay5, k0_pay6]
  refine band x1 x0 x2 x3 _ _ _ _ _ (congrArg xo5 (by blk_ext)) ?_
  rw [lane _ (by omega), c256, ← Nat.cast_add]; congr 1; unfold seg; omega

theorem row3 (x : S1x128.Idx) (y : S8x128.Idx) (h0 : (y 0).val = 3 + (x 0).val) (h1 : (y 1).val = (x 1).val) :
    k0_pay12 (k0_pay5 x1) (k0_pay6 x0 x2 x3) (View.ld xo5 (Rect.unit ![3, 0] ![1, 128] inb_S8x128_S1x128_3_0)) x
      = max (xo5 y) (maxB x1 (gateB x0 x2 x3) (seg y)) := by
  have x0_lt : (x 0).val < 1 := (x 0).isLt
  have x1_lt : (x 1).val < 128 := (x 1).isLt
  pointwise [k0_pay12, k0_pay5, k0_pay6]
  refine band x1 x0 x2 x3 _ _ _ _ _ (congrArg xo5 (by blk_ext)) ?_
  rw [lane _ (by omega), c384, ← Nat.cast_add]; congr 1; unfold seg; omega

theorem row4 (x : S1x128.Idx) (y : S8x128.Idx) (h0 : (y 0).val = 4 + (x 0).val) (h1 : (y 1).val = (x 1).val) :
    k0_pay13 (k0_pay5 x1) (k0_pay6 x0 x2 x3) (View.ld xo5 (Rect.unit ![4, 0] ![1, 128] inb_S8x128_S1x128_4_0)) x
      = max (xo5 y) (maxB x1 (gateB x0 x2 x3) (seg y)) := by
  have x0_lt : (x 0).val < 1 := (x 0).isLt
  have x1_lt : (x 1).val < 128 := (x 1).isLt
  pointwise [k0_pay13, k0_pay5, k0_pay6]
  refine band x1 x0 x2 x3 _ _ _ _ _ (congrArg xo5 (by blk_ext)) ?_
  rw [lane _ (by omega), c512, ← Nat.cast_add]; congr 1; unfold seg; omega

theorem row5 (x : S1x128.Idx) (y : S8x128.Idx) (h0 : (y 0).val = 5 + (x 0).val) (h1 : (y 1).val = (x 1).val) :
    k0_pay14 (k0_pay5 x1) (k0_pay6 x0 x2 x3) (View.ld xo5 (Rect.unit ![5, 0] ![1, 128] inb_S8x128_S1x128_5_0)) x
      = max (xo5 y) (maxB x1 (gateB x0 x2 x3) (seg y)) := by
  have x0_lt : (x 0).val < 1 := (x 0).isLt
  have x1_lt : (x 1).val < 128 := (x 1).isLt
  pointwise [k0_pay14, k0_pay5, k0_pay6]
  refine band x1 x0 x2 x3 _ _ _ _ _ (congrArg xo5 (by blk_ext)) ?_
  rw [lane _ (by omega), c640, ← Nat.cast_add]; congr 1; unfold seg; omega

theorem row6 (x : S1x128.Idx) (y : S8x128.Idx) (h0 : (y 0).val = 6 + (x 0).val) (h1 : (y 1).val = (x 1).val) :
    k0_pay1 (k0_pay15 (k0_pay5 x1) (k0_pay6 x0 x2 x3)) (View.ld xo5 (Rect.unit ![6, 0] ![1, 128] inb_S8x128_S1x128_6_0)) x
      = max (xo5 y) (maxB x1 (gateB x0 x2 x3) (seg y)) := by
  have x0_lt : (x 0).val < 1 := (x 0).isLt
  have x1_lt : (x 1).val < 128 := (x 1).isLt
  pointwise [k0_pay1, k0_pay15, k0_pay5, k0_pay6]
  refine band x1 x0 x2 x3 _ _ _ _ _ (congrArg xo5 (by blk_ext)) ?_
  rw [lane _ (by omega), c768, ← Nat.cast_add]; congr 1; unfold seg; omega

theorem row7 (x : S1x128.Idx) (y : S8x128.Idx) (h0 : (y 0).val = 7 + (x 0).val) (h1 : (y 1).val = (x 1).val) :
    k0_pay2 (k0_pay5 x1) (k0_pay6 x0 x2 x3) (View.ld xo5 (Rect.unit ![7, 0] ![1, 128] inb_S8x128_S1x128_7_0)) x
      = max (xo5 y) (maxB x1 (gateB x0 x2 x3) (seg y)) := by
  have x0_lt : (x 0).val < 1 := (x 0).isLt
  have x1_lt : (x 1).val < 128 := (x 1).isLt
  pointwise [k0_pay2, k0_pay5, k0_pay6]
  refine band x1 x0 x2 x3 _ _ _ _ _ (congrArg xo5 (by blk_ext)) ?_
  rw [lane _ (by omega), c896, ← Nat.cast_add]; congr 1; unfold seg; omega

end Bands

theorem out5_B (c : Dev nD) (t : Fin cfg0.N) (hc0 : ¬ cond_0 (grid0.coords t))
    (x0 : Vec Ideal S2048x128 .f32) (x1 : Vec Ideal S2048x1 .f32) (x2 : Vec Ideal S128x1 .f32) (x3 : Vec Ideal S1x1 .f32)
    (xo5 : Vec Ideal S8x128 .f32) (y : S8x128.Idx) :
    out_B_5 c t hc0 x0 x1 x2 x3 xo5 y = max (xo5 y) (maxB x1 (gateB x0 x2 x3) (seg y)) := by
  unfold out_B_5 kernelRun_B bodyRun_B; dsimp only; frame_out
  canon_tiles x h
  · exact row7 x0 x1 x2 x3 xo5 x y h0 h1
  · exact row6 x0 x1 x2 x3 xo5 x y h0 h1
  · exact row5 x0 x1 x2 x3 xo5 x y h0 h1
  · exact row4 x0 x1 x2 x3 xo5 x y h0 h1
  · exact row3 x0 x1 x2 x3 xo5 x y h0 h1
  · exact row2 x0 x1 x2 x3 xo5 x y h0 h1
  · exact row1 x0 x1 x2 x3 xo5 x y h0 h1
  · exact row0 x0 x1 x2 x3 xo5 x y h0 h1

theorem out5_A (c : Dev nD) (t : Fin cfg0.N) (hc0 : cond_0 (grid0.coords t))
    (x0 : Vec Ideal S2048x128 .f32) (x1 : Vec Ideal S2048x1 .f32) (x2 : Vec Ideal S128x1 .f32) (x3 : Vec Ideal S1x1 .f32)
    (y : S8x128.Idx) :
    out_A_5 c t hc0 x0 x1 x2 x3 y = max ⊥ (maxB x1 (gateB x0 x2 x3) (seg y)) := by
  have hz : ∀ i, (k0_pay3 (F := Ideal)) i = ⊥ := fun i => by pointwise [k0_pay3]; exact cbot
  rw [← hz y]
  unfold out_A_5 kernelRun_A bodyRun_A; dsimp only
  frame_open
  simp (disch := decide) only [↓ View.readCov_skip, ↓ View.readCov_cons_toLoadRect, ↓ View.readCov_fill]
  frame_out
  generalize k0_pay3 (F := Ideal) = xo5
  refine View.canon_append_of_piecesOf (Val := Elt Ideal) (e := .f32) (s := S8x128) (fun y => max (xo5 y) (maxB x1 (gateB x0 x2 x3) (seg y))) [_] [_, _, _, _, _, _, _, _] ?_ y ?_
  · refine ⟨fun x => row7 x0 x1 x2 x3 xo5 x _ ?_ ?_, fun x => row6 x0 x1 x2 x3 xo5 x _ ?_ ?_, fun x => row5 x0 x1 x2 x3 xo5 x _ ?_ ?_,
      fun x => row4 x0 x1 x2 x3 xo5 x _ ?_ ?_, fun x => row3 x0 x1 x2 x3 xo5 x _ ?_ ?_, fun x => row2 x0 x1 x2 x3 xo5 x _ ?_ ?_,
      fun x => row1 x0 x1 x2 x3 xo5 x _ ?_ ?_, fun x => row0 x0 x1 x2 x3 xo5 x _ ?_ ?_, trivial⟩
    all_goals (change _ + 1 * _ = _; simp)
  · exact View.cover_of_tiledL (s := S8x128) _ S1x128.size (by sl_kernel_rfl) y

end Cert.KernelIdeal.R0
end
-- ==== Proof.Rows.lean ====
/- The rows of the padded arrays, block by block: sums and suprema over blocks and rows of a block regrouped over all
   rows, and running maxima over the blocks. -/
module

public import proofs.«01_k».proof.Proof.Consts

@[expose] public section

set_option maxRecDepth 16384

noncomputable section

namespace Cert.Rows

/-- Row `q` of block `t`, as a row of the padded arrays. -/
def row {N : ℕ} (h : N = 49) (t : Fin N) (q : Fin 2048) : Fin 100352 := ⟨2048 * t.val + q.val, by have := t.isLt; omega⟩

theorem row_surj {N : ℕ} (h : N = 49) (r : Fin 100352) : ∃ t q, row h t q = r :=
  ⟨⟨r.val / 2048, by omega⟩, ⟨r.val % 2048, by omega⟩, Fin.ext (by simp only [row]; omega)⟩

theorem sum_rows {N : ℕ} (h : N = 49) (f : Fin 100352 → EReal) : ∑ t : Fin N, ∑ q : Fin 2048, f (row h t q) = ∑ r, f r := by
  rw [← Fintype.sum_prod_type' (fun t q => f (row h t q))]
  refine Fintype.sum_bijective (fun p : Fin N × Fin 2048 => row h p.1 p.2) ⟨?_, ?_⟩ _ _ fun p => rfl
  · rintro ⟨t, q⟩ ⟨t', q'⟩ e
    have e' : 2048 * t.val + q.val = 2048 * t'.val + q'.val := congrArg Fin.val e
    have : t = t' := Fin.ext (by omega)
    have : q = q' := Fin.ext (by omega)
    simp [*]
  · intro r
    obtain ⟨t, q, e⟩ := row_surj h r
    exact ⟨(t, q), e⟩

theorem sup_rows {N : ℕ} (h : N = 49) (f : Fin 100352 → EReal) :
    (Finset.univ.sup fun t : Fin N => Finset.univ.sup fun q : Fin 2048 => f (row h t q)) = Finset.univ.sup f := by
  refine le_antisymm (Finset.sup_le fun t _ => Finset.sup_le fun q _ => Finset.le_sup (f := f) (Finset.mem_univ _)) (Finset.sup_le fun r _ => ?_)
  obtain ⟨t, q, rfl⟩ := row_surj h r
  exact (Finset.le_sup (f := fun q => f (row h t q)) (Finset.mem_univ q)).trans
    (Finset.le_sup (f := fun t : Fin N => Finset.univ.sup fun q : Fin 2048 => f (row h t q)) (Finset.mem_univ t))

/-- A running maximum that starts at the first point holds, after point `n`, the supremum of the terms so far. -/
theorem max_upto {N : ℕ} {ι : Type} (f : (n : ℕ) → n < N → ι → EReal) (J : ℕ) (hJ : N ≤ J) (term : Fin N → ι → EReal)
    (h0 : ∀ t : Fin N, t.val % J = 0 → ∀ i, f t.val t.isLt i = max ⊥ (term t i))
    (hs : ∀ t : Fin N, ¬t.val % J = 0 → ∀ i,
      f t.val t.isLt i = max (f (t.val - 1) (Nat.lt_of_le_of_lt (Nat.sub_le _ _) t.isLt) i) (term t i))
    (n : ℕ) (hn : n < N) (i : ι) :
    f n hn i = (Finset.univ.filter fun p : Fin N => p.val ≤ n).sup fun p => term p i := by
  induction n with
  | zero =>
    rw [h0 ⟨0, hn⟩ (Nat.zero_mod _) i]
    have : (Finset.univ.filter fun p : Fin N => p.val ≤ 0) = {⟨0, hn⟩} := by
      ext p; simp [Fin.ext_iff]
    rw [this, Finset.sup_singleton]; simp
  | succ n ih =>
    rw [hs ⟨n + 1, hn⟩ (by rw [Nat.mod_eq_of_lt (lt_of_lt_of_le hn hJ)]; exact Nat.succ_ne_zero n) i]
    have : (Finset.univ.filter fun p : Fin N => p.val ≤ n + 1) = insert ⟨n + 1, hn⟩ (Finset.univ.filter fun p : Fin N => p.val ≤ n) := by
      ext p; simp [Fin.ext_iff]; omega
    rw [this, Finset.sup_insert, ← ih (Nat.lt_of_succ_lt hn)]
    exact max_comm _ _

theorem max_last {N : ℕ} {ι : Type} (f : (n : ℕ) → n < N → ι → EReal) (J : ℕ) (hJ : N ≤ J) (term : Fin N → ι → EReal)
    (h0 : ∀ t : Fin N, t.val % J = 0 → ∀ i, f t.val t.isLt i = max ⊥ (term t i))
    (hs : ∀ t : Fin N, ¬t.val % J = 0 → ∀ i,
      f t.val t.isLt i = max (f (t.val - 1) (Nat.lt_of_le_of_lt (Nat.sub_le _ _) t.isLt) i) (term t i))
    (t : Fin N) (ht : t.val + 1 = N) (i : ι) :
    f t.val t.isLt i = Finset.univ.sup fun p => term p i := by
  rw [max_upto f J hJ term h0 hs t.val t.isLt i]
  congr 1
  ext p; simp; omega

end Cert.Rows

end
-- ==== Proof.KI.Val0.lean ====
/- Kernel region 0: what its two output arrays hold after the whole grid. -/
module

public import proofs.«01_k».proof.Proof.KI.Step0
public import proofs.«01_k».proof.Proof.Rows

@[expose] public section

set_option maxRecDepth 16384

noncomputable section

namespace Cert.KernelIdeal.R0
open Cert.KernelIdeal Cert.KernelIdeal.Gen
open Idealize.ShloMosaic Idealize.ShloMosaic.TcCoe
open Cert.Consts Cert.Rows

variable (W : Dev nD → Valuation τ sig (Elt Ideal))

theorem idx0 (t : Fin cfg0.N) : (cfg0.win 0).index t = ![t.val, 0] := by revert t; decide +kernel
theorem idx1 (t : Fin cfg0.N) : (cfg0.win 1).index t = ![t.val, 0] := by revert t; decide +kernel
theorem idx2 (t : Fin cfg0.N) : (cfg0.win 2).index t = ![0, 0] := by revert t; decide +kernel
theorem idx3 (t : Fin cfg0.N) : (cfg0.win 3).index t = ![0, 0] := by revert t; decide +kernel
theorem idx4 (t : Fin cfg0.N) : (cfg0.win 4).index t = ![t.val, 0] := by revert t; decide +kernel

theorem N49 : cfg0.N = 49 := N_0

theorem blk0 (c : Dev nD) (t : Fin cfg0.N) (q : Fin 2048) (k : Fin 128) :
    iblk W c 0 t (ix2 q k) = W c main_v0 (ix2 (row N49 t q) k) := by
  blk_ext [iblk, V, idx0 t, row]
theorem blk1 (c : Dev nD) (t : Fin cfg0.N) (q : Fin 2048) (z : Fin 1) :
    iblk W c 1 t (ix2 q z) = W c main_v3 (ix2 (row N49 t q) z) := by
  blk_ext [iblk, V, idx1 t, row]
theorem blk2 (c : Dev nD) (t : Fin cfg0.N) (k : Fin 128) (z : Fin 1) :
    iblk W c 2 t (ix2 k z) = W c main_arg2 (ix2 k z) := by
  blk_ext [iblk, V, idx2 t]
theorem blk3 (c : Dev nD) (t : Fin cfg0.N) (z z' : Fin 1) :
    iblk W c 3 t (ix2 z z') = W c main_v4 (ix2 z z') := by
  blk_ext [iblk, V, idx3 t]

/-- The gate of row `r`. -/
def gateR (x : Vec Ideal S100352x128 .f32) (wg : Vec Ideal S128x1 .f32) (bg : Vec Ideal S1x1 .f32) (r : Fin 100352) : EReal :=
  ∑ k : Fin 128, x (ix2 r k) * wg (ix2 k 0) + bg (ix2 0 0)

/-- The maximum of `g` over the rows whose index is `s`. -/
def maxR (idx : Vec Ideal S100352x1 .f32) (g : Fin 100352 → EReal) (s : ℕ) : EReal :=
  Finset.univ.sup fun r : Fin 100352 => if idx (ix2 r 0) = ((s : ℕ) : EReal) then g r else ⊥

/-- The gates this region computes from its entry contents. -/
def gates (c : Dev nD) (r : Fin 100352) : EReal := gateR (W c main_v0) (W c main_arg2) (W c main_v4) r

theorem gateB_blk (c : Dev nD) (t : Fin cfg0.N) (q : Fin 2048) :
    gateB (iblk W c 0 t) (iblk W c 2 t) (iblk W c 3 t) q = gates W c (row N49 t q) := by
  unfold gateB gates gateR
  simp only [blk0, blk2, blk3]

theorem maxB_blk (c : Dev nD) (t : Fin cfg0.N) (s : ℕ) :
    maxB (iblk W c 1 t) (gateB (iblk W c 0 t) (iblk W c 2 t) (iblk W c 3 t)) s
      = Finset.univ.sup fun q : Fin 2048 => if W c main_v3 (ix2 (row N49 t q) 0) = ((s : ℕ) : EReal) then gates W c (row N49 t q) else ⊥ := by
  unfold maxB
  simp only [blk1, gateB_blk]

theorem gate_at (c : Dev nD) (t : Fin cfg0.N) (q : Fin 2048) (z : Fin 1) :
    (outsAt W c t.val t.isLt).1 (ix2 q z) = gates W c (row N49 t q) := by
  by_cases h0 : t.val % 49 = 0
  · rw [outsAt_A W c t h0]; dsimp only; rw [out4_A, gateB_blk]
  · rw [outsAt_B W c t h0]; dsimp only; rw [out4_B, gateB_blk]

/-- The last grid point. -/
def tLast : Fin cfg0.N := ⟨48, by rw [N49]; omega⟩

theorem gmax_at (c : Dev nD) (y : S8x128.Idx) :
    (outsAt W c tLast.val tLast.isLt).2 y = maxR (W c main_v3) (gates W c) (seg y) := by
  rw [max_last (fun n h => (outsAt W c n h).2) 49 N49.le
    (fun t y => maxB (iblk W c 1 t) (gateB (iblk W c 0 t) (iblk W c 2 t) (iblk W c 3 t)) (seg y))
    (fun t h y => by rw [outsAt_A W c t h]; dsimp only; rw [out5_A])
    (fun t h y => by rw [outsAt_B W c t h]; dsimp only; rw [out5_B]) tLast N49.symm y]
  simp only [maxB_blk]
  exact sup_rows N49 fun r => if W c main_v3 (ix2 r 0) = ((seg y : ℕ) : EReal) then gates W c r else ⊥

/-- The gate array. -/
theorem gate_arr (c : Dev nD) : (dats W c).arrAt 4 cfg0.N = fun i : S100352x1.Idx => gates W c (i 0) := by
  refine (dats W c).arrAt_eq_of_covers 4 _ (by decide +kernel) fun t hf y => ?_
  blk_simp
  rw [after_4]
  have e : y = ix2 (n0 := 2048) (n1 := 1) (y 0) (y 1) := by blk_ext
  rw [e]
  refine (gate_at W c t _ _).trans (congrArg _ (Fin.ext ?_))
  blk_simp [idx4 t, row]
  dsimp only
  omega

/-- The table of maxima. -/
theorem gmax_arr (c : Dev nD) : (dats W c).arrAt 5 cfg0.N = fun i : S8x128.Idx => maxR (W c main_v3) (gates W c) (seg i) := by
  refine (dats W c).arrAt_eq_of_after_last 5 tLast (by decide +kernel) _ fun j => ?_
  blk_simp
  rw [after_5, gmax_at]

end Cert.KernelIdeal.R0

end
-- ==== Proof.KI.Step1.lean ====
/- Kernel region 1: what one grid point does to its output, read at an index. -/
module

public import proofs.«01_k».proof.Proof.KI.Region1
public import proofs.«01_k».proof.Proof.KI.Step0

@[expose] public section

set_option maxRecDepth 16384

noncomputable section

namespace Cert.KernelIdeal.R1
open Cert.KernelIdeal Cert.KernelIdeal.Gen
open Idealize.ShloMosaic Idealize.ShloMosaic.TcCoe
open Cert.Consts
open Cert.KernelIdeal.R0 (seg)

/-- A table by its rows and lanes. -/
def tab (x : Vec Ideal S8x128 .f32) (b : Fin 8) (l : Fin 128) : EReal := x (ix2 b l)

/-- The exponential of row `q` of a block: of its gate less the maximum that its index picks. -/
def expB (x0 : Vec Ideal S2048x1 .f32) (x1 : Vec Ideal S2048x1 .f32) (x2 : Vec Ideal S8x128 .f32) (q : Fin 2048) : EReal :=
  Ideal.exp (x0 (ix2 q 0) - pick (tab x2) (x1 (ix2 q 0)))

/-- The sum of `e` over the rows of a block whose index is `s`. -/
def sumB (x1 : Vec Ideal S2048x1 .f32) (e : Fin 2048 → EReal) (s : ℕ) : EReal :=
  ∑ q : Fin 2048, if x1 (ix2 q 0) = ((s : ℕ) : EReal) then e q else 0

theorem bandSum_eq (v : EReal) (n : ℕ) (t : Fin 128 → EReal) :
    ∑ l : Fin 128, (if v = ((l.val + n : ℕ) : EReal) then 1 else 0) * t l = bandSum v n t := rfl

theorem bandSum_eq_zero (v : EReal) (t : Fin 128 → EReal) :
    ∑ l : Fin 128, (if v = ((l.val : ℕ) : EReal) then 1 else 0) * t l = bandSum v 0 t := rfl

theorem payE (x0 : Vec Ideal S2048x1 .f32) (x1 : Vec Ideal S2048x1 .f32) (x2 : Vec Ideal S8x128 .f32) (q : Fin 2048) (l : Fin 128) :
    (k1_pay11 (k1_pay4 x2) (k1_pay5 x1) (k1_pay6 x0) (k1_pay10 (k1_pay4 x2) (k1_pay5 x1) (k1_pay7 x2 x1) k1_pay8 k1_pay9)) (ix2 q l) = expB x0 x1 x2 q := by
  pointwise [k1_pay11, k1_pay4, k1_pay5, k1_pay6, k1_pay10, k1_pay7, k1_pay8, k1_pay9]
  simp only [bit, laneF, c0, c128, c256, c384, c512, c640, c768, c896, mask, ← Nat.cast_add, max_bot_right, zero_add, add_zero]
  unfold expB pick
  simp only [zero_add]
  rfl

theorem band (x1 : Vec Ideal S2048x1 .f32) (E : FVec Ideal S2048x128 .f32) (e : Fin 2048 → EReal) (hE : ∀ q l, E (ix2 q l) = e q)
    (a b : EReal) (n : EReal) (s : ℕ) (l : Fin 128) (d : ∀ q : Fin 2048, Decidable (x1 (ix2 q 0) = n)) (hi : a = b) (hn : n = ((s : ℕ) : EReal)) :
    a + (∑ q : Fin 2048, @ite _ (x1 (ix2 q 0) = n) (d q) (E (ix2 q l)) 0) = b + sumB x1 e s := by
  subst hi hn
  simp only [hE]
  unfold sumB
  congr 1
  refine Finset.sum_congr rfl fun q _ => ?_
  congr

section Bands
variable (x0 : Vec Ideal S2048x1 .f32) (x1 : Vec Ideal S2048x1 .f32) (x2 : Vec Ideal S8x128 .f32) (xo : Vec Ideal S8x128 .f32)
    (E : FVec Ideal S2048x128 .f32) (e : Fin 2048 → EReal) (hE : ∀ q l, E (ix2 q l) = e q)
include hE

omit hE in
theorem row0 (x : S1x128.Idx) (y : S8x128.Idx) (h0 : (y 0).val = (x 0).val) (h1 : (y 1).val = (x 1).val) :
    k1_pay12 (k1_pay4 x2) (k1_pay5 x1) (k1_pay6 x0) (k1_pay10 (k1_pay4 x2) (k1_pay5 x1) (k1_pay7 x2 x1) k1_pay8 k1_pay9) (View.ld xo (Rect.unit ![0, 0] ![1, 128] inb_S8x128_S1x128_0_0)) x
      = xo y + sumB x1 (expB x0 x1 x2) (seg y) := by
  have x0_lt : (x 0).val < 1 := (x 0).isLt
  have x1_lt : (x 1).val < 128 := (x 1).isLt
  have hE := payE x0 x1 x2
  unfold k1_pay12
  revert hE
  generalize (k1_pay11 (k1_pay4 x2) (k1_pay5 x1) (k1_pay6 x0) (k1_pay10 (k1_pay4 x2) (k1_pay5 x1) (k1_pay7 x2 x1) k1_pay8 k1_pay9)) = E
  intro hE
  pointwise [k1_pay5]
  refine band x1 E _ hE _ _ _ _ _ _ (congrArg xo (by blk_ext)) ?_
  rw [lane _ (by omega)]; congr 1; unfold seg; omega

theorem row1 (x : S1x128.Idx) (y : S8x128.Idx) (h0 : (y 0).val = 1 + (x 0).val) (h1 : (y 1).val = (x 1).val) :
    k1_pay14 (k1_pay5 x1) E k1_pay13 (View.ld xo (Rect.unit ![1, 0] ![1, 128] inb_S8x128_S1x128_1_0)) x
      = xo y + sumB x1 e (seg y) := by
  have x0_lt : (x 0).val < 1 := (x 0).isLt
  have x1_lt : (x 1).val < 128 := (x 1).isLt
  pointwise [k1_pay14, k1_pay13, k1_pay5]
  refine band x1 E e hE _ _ _ _ _ _ (congrArg xo (by blk_ext)) ?_
  rw [lane _ (by omega), c128, ← Nat.cast_add]; congr 1; unfold seg; omega

theorem row2 (x : S1x128.Idx) (y : S8x128.Idx) (h0 : (y 0).val = 2 + (x 0).val) (h1 : (y 1).val = (x 1).val) :
    k1_pay15 (k1_pay5 x1) E (View.ld xo (Rect.unit ![2, 0] ![1, 128] inb_S8x128_S1x128_2_0)) x
      = xo y + sumB x1 e (seg y) := by
  have x0_lt : (x 0).val < 1 := (x 0).isLt
  have x1_lt : (x 1).val < 128 := (x 1).isLt
  pointwise [k1_pay15, k1_pay5]
  refine band x1 E e hE _ _ _ _ _ _ (congrArg xo (by blk_ext)) ?_
  rw [lane _ (by omega), c256, ← Nat.cast_add]; congr 1; unfold seg; omega

theorem row3 (x : S1x128.Idx) (y : S8x128.Idx) (h0 : (y 0).val = 3 + (x 0).val) (h1 : (y 1).val = (x 1).val) :
    k1_pay16 (k1_pay5 x1) E (View.ld xo (Rect.unit ![3, 0] ![1, 128] inb_S8x128_S1x128_3_0)) x
      = xo y + sumB x1 e (seg y) := by
  have x0_lt : (x 0).val < 1 := (x 0).isLt
  have x1_lt : (x 1).val < 128 := (x 1).isLt
  pointwise [k1_pay16, k1_pay5]
  refine band x1 E e hE _ _ _ _ _ _ (congrArg xo (by blk_ext)) ?_
  rw [lane _ (by omega), c384, ← Nat.cast_add]; congr 1; unfold seg; omega

theorem row4 (x : S1x128.Idx) (y : S8x128.Idx) (h0 : (y 0).val = 4 + (x 0).val) (h1 : (y 1).val = (x 1).val) :
    k1_pay17 (k1_pay5 x1) E (View.ld xo (Rect.unit ![4, 0] ![1, 128] inb_S8x128_S1x128_4_0)) x
      = xo y + sumB x1 e (seg y) := by
  have x0_lt : (x 0).val < 1 := (x 0).isLt
  have x1_lt : (x 1).val < 128 := (x 1).isLt
  pointwise [k1_pay17, k1_pay5]
  refine band x1 E e hE _ _ _ _ _ _ (congrArg xo (by blk_ext)) ?_
  rw [lane _ (by omega), c512, ← Nat.cast_add]; congr 1; unfold seg; omega

theorem row5 (x : S1x128.Idx) (y : S8x128.Idx) (h0 : (y 0).val = 5 + (x 0).val) (h1 : (y 1).val = (x 1).val) :
    k1_pay18 (k1_pay5 x1) E (View.ld xo (Rect.unit ![5, 0] ![1, 128] inb_S8x128_S1x128_5_0)) x
      = xo y + sumB x1 e (seg y) := by
  have x0_lt : (x 0).val < 1 := (x 0).isLt
  have x1_lt : (x 1).val < 128 := (x 1).isLt
  pointwise [k1_pay18, k1_pay5]
  refine band x1 E e hE _ _ _ _ _ _ (congrArg xo (by blk_ext)) ?_
  rw [lane _ (by omega), c640, ← Nat.cast_add]; congr 1; unfold seg; omega

theorem row6 (x : S1x128.Idx) (y : S8x128.Idx) (h0 : (y 0).val = 6 + (x 0).val) (h1 : (y 1).val = (x 1).val) :
    k1_pay1 (k1_pay19 (k1_pay5 x1) E) (View.ld xo (Rect.unit ![6, 0] ![1, 128] inb_S8x128_S1x128_6_0)) x
      = xo y + sumB x1 e (seg y) := by
  have x0_lt : (x 0).val < 1 := (x 0).isLt
  have x1_lt : (x 1).val < 128 := (x 1).isLt
  pointwise [k1_pay1, k1_pay19, k1_pay5]
  refine band x1 E e hE _ _ _ _ _ _ (congrArg xo (by blk_ext)) ?_
  rw [lane _ (by omega), c768, ← Nat.cast_add]; congr 1; unfold seg; omega

theorem row7 (x : S1x128.Idx) (y : S8x128.Idx) (h0 : (y 0).val = 7 + (x 0).val) (h1 : (y 1).val = (x 1).val) :
    k1_pay2 (k1_pay5 x1) E (View.ld xo (Rect.unit ![7, 0] ![1, 128] inb_S8x128_S1x128_7_0)) x
      = xo y + sumB x1 e (seg y) := by
  have x0_lt : (x 0).val < 1 := (x 0).isLt
  have x1_lt : (x 1).val < 128 := (x 1).isLt
  pointwise [k1_pay2, k1_pay5]
  refine band x1 E e hE _ _ _ _ _ _ (congrArg xo (by blk_ext)) ?_
  rw [lane _ (by omega), c896, ← Nat.cast_add]; congr 1; unfold seg; omega

end Bands

theorem out3_B (c : Dev nD) (t : Fin cfg1.N) (hc0 : ¬ cond_0 (grid1.coords t))
    (x0 : Vec Ideal S2048x1 .f32) (x1 : Vec Ideal S2048x1 .f32) (x2 : Vec Ideal S8x128 .f32) (xo : Vec Ideal S8x128 .f32) (y : S8x128.Idx) :
    out_B_3 c t hc0 x0 x1 x2 xo y = xo y + sumB x1 (expB x0 x1 x2) (seg y) := by
  unfold out_B_3 kernelRun_B bodyRun_B; dsimp only; frame_out
  have hE := payE x0 x1 x2
  canon_tiles x h
  · exact row7 x1 xo _ _ hE x y h0 h1
  · exact row6 x1 xo _ _ hE x y h0 h1
  · exact row5 x1 xo _ _ hE x y h0 h1
  · exact row4 x1 xo _ _ hE x y h0 h1
  · exact row3 x1 xo _ _ hE x y h0 h1
  · exact row2 x1 xo _ _ hE x y h0 h1
  · exact row1 x1 xo _ _ hE x y h0 h1
  · exact row0 x0 x1 x2 xo x y h0 h1

theorem out3_A (c : Dev nD) (t : Fin cfg1.N) (hc0 : cond_0 (grid1.coords t))
    (x0 : Vec Ideal S2048x1 .f32) (x1 : Vec Ideal S2048x1 .f32) (x2 : Vec Ideal S8x128 .f32) (y : S8x128.Idx) :
    out_A_3 c t hc0 x0 x1 x2 y = 0 + sumB x1 (expB x0 x1 x2) (seg y) := by
  have hz : ∀ i, (k1_pay3 (F := Ideal)) i = 0 := fun i => by pointwise [k1_pay3]
  rw [← hz y]
  have hE := payE x0 x1 x2
  unfold out_A_3 kernelRun_A bodyRun_A; dsimp only
  frame_open
  simp (disch := decide) only [↓ View.readCov_skip, ↓ View.readCov_cons_toLoadRect, ↓ View.readCov_fill]
  frame_out
  generalize k1_pay3 (F := Ideal) = xo
  refine View.canon_append_of_piecesOf (Val := Elt Ideal) (e := .f32) (s := S8x128) (fun y => xo y + sumB x1 (expB x0 x1 x2) (seg y)) [_] [_, _, _, _, _, _, _, _] ?_ y ?_
  · refine ⟨fun x => row7 x1 xo _ _ hE x _ ?_ ?_, fun x => row6 x1 xo _ _ hE x _ ?_ ?_, fun x => row5 x1 xo _ _ hE x _ ?_ ?_,
      fun x => row4 x1 xo _ _ hE x _ ?_ ?_, fun x => row3 x1 xo _ _ hE x _ ?_ ?_, fun x => row2 x1 xo _ _ hE x _ ?_ ?_,
      fun x => row1 x1 xo _ _ hE x _ ?_ ?_, fun x => row0 x0 x1 x2 xo x _ ?_ ?_, trivial⟩
    all_goals (change _ + 1 * _ = _; simp)
  · exact View.cover_of_tiledL (s := S8x128) _ S1x128.size (by sl_kernel_rfl) y

end Cert.KernelIdeal.R1
end
-- ==== Proof.KI.Val1.lean ====
/- Kernel region 1: what its output array holds after the whole grid. -/
module

public import proofs.«01_k».proof.Proof.KI.Step1
public import proofs.«01_k».proof.Proof.Rows

@[expose] public section

set_option maxRecDepth 16384

noncomputable section

namespace Cert.KernelIdeal.R1
open Cert.KernelIdeal Cert.KernelIdeal.Gen
open Idealize.ShloMosaic Idealize.ShloMosaic.TcCoe
open Cert.Consts Cert.Rows
open Cert.KernelIdeal.R0 (seg)

variable (W : Dev nD → Valuation τ sig (Elt Ideal))

theorem idx0 (t : Fin cfg1.N) : (cfg1.win 0).index t = ![t.val, 0] := by revert t; decide +kernel
theorem idx1 (t : Fin cfg1.N) : (cfg1.win 1).index t = ![t.val, 0] := by revert t; decide +kernel
theorem idx2 (t : Fin cfg1.N) : (cfg1.win 2).index t = ![0, 0] := by revert t; decide +kernel

theorem N49 : cfg1.N = 49 := N_1

theorem blk0 (c : Dev nD) (t : Fin cfg1.N) (q : Fin 2048) (z : Fin 1) :
    iblk W c 0 t (ix2 q z) = W c main_v6_0 (ix2 (row N49 t q) z) := by
  blk_ext [iblk, V, idx0 t, row]
theorem blk1 (c : Dev nD) (t : Fin cfg1.N) (q : Fin 2048) (z : Fin 1) :
    iblk W c 1 t (ix2 q z) = W c main_v3 (ix2 (row N49 t q) z) := by
  blk_ext [iblk, V, idx1 t, row]
theorem blk2 (c : Dev nD) (t : Fin cfg1.N) : tab (iblk W c 2 t) = tab (W c main_v6_1) := by
  funext b l
  unfold tab
  blk_ext [iblk, V, idx2 t]

/-- The exponential of row `r`: of its gate less the maximum that its index picks. -/
def expR (gate idx : Vec Ideal S100352x1 .f32) (gmax : Vec Ideal S8x128 .f32) (r : Fin 100352) : EReal :=
  Ideal.exp (gate (ix2 r 0) - pick (tab gmax) (idx (ix2 r 0)))

/-- The sum of `e` over the rows whose index is `s`. -/
def sumR (idx : Vec Ideal S100352x1 .f32) (e : Fin 100352 → EReal) (s : ℕ) : EReal :=
  ∑ r : Fin 100352, if idx (ix2 r 0) = ((s : ℕ) : EReal) then e r else 0

/-- The exponentials this region computes from its entry contents. -/
def exps (c : Dev nD) (r : Fin 100352) : EReal := expR (W c main_v6_0) (W c main_v3) (W c main_v6_1) r

theorem sumB_blk (c : Dev nD) (t : Fin cfg1.N) (s : ℕ) :
    sumB (iblk W c 1 t) (expB (iblk W c 0 t) (iblk W c 1 t) (iblk W c 2 t)) s
      = ∑ q : Fin 2048, if W c main_v3 (ix2 (row N49 t q) 0) = ((s : ℕ) : EReal) then exps W c (row N49 t q) else 0 := by
  unfold sumB expB exps expR
  simp only [blk0, blk1, blk2]

/-- The last grid point. -/
def tLast : Fin cfg1.N := ⟨48, by rw [N49]; omega⟩

theorem gsum_at (c : Dev nD) (y : S8x128.Idx) :
    outsAt W c tLast.val tLast.isLt y = sumR (W c main_v3) (exps W c) (seg y) := by
  rw [Pipeline.eq_sum_fin_of_reset_step_apply_last (fun n h => outsAt W c n h) 49 (fun _ => (0 : EReal))
    (fun t y => sumB (iblk W c 1 t) (expB (iblk W c 0 t) (iblk W c 1 t) (iblk W c 2 t)) (seg y))
    (fun t h y => by rw [outsAt_A W c t h, out3_A])
    (fun t h y => by rw [outsAt_B W c t h, out3_B]) N49.le tLast N49.symm y]
  simp only [sumB_blk, zero_add]
  exact sum_rows N49 fun r => if W c main_v3 (ix2 r 0) = ((seg y : ℕ) : EReal) then exps W c r else 0

/-- The table of sums. -/
theorem gsum_arr (c : Dev nD) : (dats W c).arrAt 3 cfg1.N = fun i : S8x128.Idx => sumR (W c main_v3) (exps W c) (seg i) := by
  refine (dats W c).arrAt_eq_of_after_last 3 tLast (by decide +kernel) _ fun j => ?_
  blk_simp
  rw [after_3, gsum_at]

end Cert.KernelIdeal.R1

end
-- ==== Proof.KI.Step2.lean ====
/- Kernel region 2: what one grid point does to its two accumulators and to the output, read at an index. -/
module

public import proofs.«01_k».proof.Proof.KI.Region2
public import proofs.«01_k».proof.Proof.KI.Step1

@[expose] public section

set_option maxRecDepth 16384

noncomputable section

namespace Cert.KernelIdeal.R2
open Cert.KernelIdeal Cert.KernelIdeal.Gen
open Idealize.ShloMosaic Idealize.ShloMosaic.TcCoe
open Cert.Consts
open Cert.KernelIdeal.R1 (tab bandSum_eq bandSum_eq_zero)

/-- A load of the whole buffer reads what the stores left. -/
theorem readCov_whole {sig : RefSig} {κ : Kind} {sp : Space} {s : Shape} {e : EltTy} {Val : EltTy → Type} [∀ e, Nonempty (Val e)]
    (v : View sig κ sp s e) (L : List (View.Piece Val s e)) {off : Fin s.rank → ℕ} (inb : ∀ a, off a + s.size a ≤ s.size a)
    (h : ∀ a, off a = 0) : v.readCov L (Rect.unit off s.size inb).toLoadRect = View.canon L := by
  rw [View.readCov_eq_canon']
  funext j
  refine congrArg (View.canon L) (funext fun a => Fin.ext ?_)
  show off a + 1 * (j a).val = (j a).val
  rw [h a]; omega

/-- The weight of row `q` of a block: the exponential of its gate less the maximum that its index picks, over the sum
    that its index picks. -/
def wB (x1 : Vec Ideal S2048x1 .f32) (x2 : Vec Ideal S2048x1 .f32) (x3 x4 : Vec Ideal S8x128 .f32) (q : Fin 2048) : EReal :=
  Ideal.div (Ideal.exp (x1 (ix2 q 0) - pick (tab x3) (x2 (ix2 q 0)))) (pick (tab x4) (x2 (ix2 q 0)) + eps)

/-- The weighted sum of column `d` of the rows of a block whose index is `s`. -/
def accB (x2 : Vec Ideal S2048x1 .f32) (w : Fin 2048 → EReal) (x0 : Vec Ideal S2048x128 .f32) (s : ℕ) (d : Fin 128) : EReal :=
  ∑ q : Fin 2048, (if x2 (ix2 q 0) = ((s : ℕ) : EReal) then w q else 0) * x0 (ix2 q d)

/-- The sum of the weights of the rows of a block whose index is `s`. -/
def swB (x2 : Vec Ideal S2048x1 .f32) (w : Fin 2048 → EReal) (s : ℕ) : EReal :=
  ∑ q : Fin 2048, (if x2 (ix2 q 0) = ((s : ℕ) : EReal) then w q else 0)

/-- The pure part of the run: the weights, one row a row, in every lane. -/
def wPay (x1 : Vec Ideal S2048x1 .f32) (x2 : Vec Ideal S2048x1 .f32) (x3 x4 : Vec Ideal S8x128 .f32) : FVec Ideal S2048x128 .f32 :=
  k2_pay26 (k2_pay6 x3) (k2_pay7 x4) (k2_pay8 x2) (k2_pay9 x1) (k2_pay22 (k2_pay6 x3) (k2_pay8 x2) (k2_pay18 (k2_pay6 x3) (k2_pay8 x2) (k2_pay11 x3 x2) (k2_pay13 x2)))
      (k2_pay23 (k2_pay7 x4) (k2_pay8 x2) (k2_pay16 (k2_pay7 x4) (k2_pay8 x2) (k2_pay12 x4 x2) (k2_pay13 x2)) (k2_pay19 (k2_pay7 x4) (k2_pay8 x2)))
      (k2_pay24 (k2_pay8 x2)) (k2_pay25 (k2_pay6 x3) (k2_pay8 x2))

theorem payW (x1 : Vec Ideal S2048x1 .f32) (x2 : Vec Ideal S2048x1 .f32) (x3 x4 : Vec Ideal S8x128 .f32) (q : Fin 2048) (l : Fin 128) :
    wPay x1 x2 x3 x4 (ix2 q l) = wB x1 x2 x3 x4 q := by
  unfold wPay
  pointwise [k2_pay26, k2_pay22, k2_pay23, k2_pay18, k2_pay11, k2_pay13, k2_pay16, k2_pay12, k2_pay19, k2_pay24, k2_pay25, k2_pay6, k2_pay7, k2_pay8, k2_pay9, k2_pay20, k2_pay21, k2_pay14, k2_pay15, k2_pay17, k2_pay10]
  simp only [bit, laneF, c0, c128, c256, c384, c512, c640, c768, c896, mask, ← Nat.cast_add, max_bot_right, zero_add, add_zero]
  unfold wB pick
  simp only [zero_add]
  rfl

theorem band0 (x2 : Vec Ideal S2048x1 .f32) (E : FVec Ideal S2048x128 .f32) (x0 : Vec Ideal S2048x128 .f32) (w : Fin 2048 → EReal)
    (hE : ∀ q l, E (ix2 q l) = w q)
    (a b : EReal) (n : EReal) (s : ℕ) (l d d' : Fin 128) (dec : ∀ q : Fin 2048, Decidable (x2 (ix2 q 0) = n)) (hi : a = b) (hn : n = ((s : ℕ) : EReal)) (hd : d = d') :
    a + (∑ q : Fin 2048, (@ite _ (x2 (ix2 q 0) = n) (dec q) (E (ix2 q l)) 0) * x0 (ix2 q d)) = b + accB x2 w x0 s d' := by
  subst hi hn hd
  simp only [hE]
  unfold accB
  congr 1
  refine Finset.sum_congr rfl fun q _ => ?_
  congr

theorem band1 (x2 : Vec Ideal S2048x1 .f32) (E : FVec Ideal S2048x128 .f32) (w : Fin 2048 → EReal)
    (hE : ∀ q l, E (ix2 q l) = w q)
    (a b : EReal) (n : EReal) (s : ℕ) (l : Fin 128) (dec : ∀ q : Fin 2048, Decidable (x2 (ix2 q 0) = n)) (hi : a = b) (hn : n = ((s : ℕ) : EReal)) :
    a + (∑ q : Fin 2048, (@ite _ (x2 (ix2 q 0) = n) (dec q) (E (ix2 q l)) 0)) = b + swB x2 w s := by
  subst hi hn
  simp only [hE]
  unfold swB
  congr 1
  refine Finset.sum_congr rfl fun q _ => ?_
  congr

section Bands
variable (x0 : Vec Ideal S2048x128 .f32) (x1 : Vec Ideal S2048x1 .f32) (x2 : Vec Ideal S2048x1 .f32) (x3 x4 : Vec Ideal S8x128 .f32)
    (xs0 : Vec Ideal S1024x128 .f32) (xs1 : Vec Ideal S1024x1 .f32) (E : FVec Ideal S2048x128 .f32) (w : Fin 2048 → EReal)
    (hE : ∀ q l, E (ix2 q l) = w q)

theorem r0_0 (x : S128x128.Idx) (y : S1024x128.Idx) (h0 : (y 0).val = (x 0).val) (h1 : (y 1).val = (x 1).val) :
    k2_pay30 (k2_pay28 x0) (k2_pay29 (k2_pay6 x3) (k2_pay7 x4) (k2_pay8 x2) (k2_pay9 x1) (k2_pay22 (k2_pay6 x3) (k2_pay8 x2) (k2_pay18 (k2_pay6 x3) (k2_pay8 x2) (k2_pay11 x3 x2) (k2_pay13 x2)))
      (k2_pay23 (k2_pay7 x4) (k2_pay8 x2) (k2_pay16 (k2_pay7 x4) (k2_pay8 x2) (k2_pay12 x4 x2) (k2_pay13 x2)) (k2_pay19 (k2_pay7 x4) (k2_pay8 x2)))
      (k2_pay24 (k2_pay8 x2)) (k2_pay25 (k2_pay6 x3) (k2_pay8 x2))) (View.ld xs0 (Rect.unit ![0, 0] ![128, 128] inb_S1024x128_S128x128_0_0)) x
      = xs0 y + accB x2 (wB x1 x2 x3 x4) x0 (y 0).val (y 1) := by
  have x0_lt : (x 0).val < 128 := (x 0).isLt
  have x1_lt : (x 1).val < 128 := (x 1).isLt
  have hE := payW x1 x2 x3 x4
  unfold k2_pay29
  change k2_pay30 (k2_pay28 x0) (select _ (wPay x1 x2 x3 x4) _) _ x = _
  revert hE
  generalize wPay x1 x2 x3 x4 = E
  intro hE
  pointwise [k2_pay30, k2_pay28, k2_pay8, k2_pay27]
  refine band0 x2 E x0 _ hE _ _ _ _ _ _ _ _ (congrArg xs0 (by blk_ext)) ?_ (Fin.ext h1.symm)
  rw [lane _ (by omega)]; congr 1; omega

include hE in
theorem r0_1 (x : S128x128.Idx) (y : S1024x128.Idx) (h0 : (y 0).val = 128 + (x 0).val) (h1 : (y 1).val = (x 1).val) :
    k2_pay33 (k2_pay8 x2) E (k2_pay28 x0) (View.ld xs0 (Rect.unit ![128, 0] ![128, 128] inb_S1024x128_S128x128_128_0)) x
      = xs0 y + accB x2 w x0 (y 0).val (y 1) := by
  have x0_lt : (x 0).val < 128 := (x 0).isLt
  have x1_lt : (x 1).val < 128 := (x 1).isLt
  pointwise [k2_pay33, k2_pay8, k2_pay28, k2_pay32]
  refine band0 x2 E x0 _ hE _ _ _ _ _ _ _ _ (congrArg xs0 (by blk_ext)) ?_ (Fin.ext h1.symm)
  rw [lane _ (by omega), c128, ← Nat.cast_add]; congr 1; omega

include hE in
theorem r0_2 (x : S128x128.Idx) (y : S1024x128.Idx) (h0 : (y 0).val = 256 + (x 0).val) (h1 : (y 1).val = (x 1).val) :
    k2_pay38 (k2_pay8 x2) E (k2_pay28 x0) k2_pay35 k2_pay36 (View.ld xs0 (Rect.unit ![256, 0] ![128, 128] inb_S1024x128_S128x128_256_0)) x
      = xs0 y + accB x2 w x0 (y 0).val (y 1) := by
  have x0_lt : (x 0).val < 128 := (x 0).isLt
  have x1_lt : (x 1).val < 128 := (x 1).isLt
  pointwise [k2_pay38, k2_pay8, k2_pay28, k2_pay35, k2_pay36, k2_pay37]
  refine band0 x2 E x0 _ hE _ _ _ _ _ _ _ _ (congrArg xs0 (by blk_ext)) ?_ (Fin.ext h1.symm)
  rw [lane _ (by omega), c256, ← Nat.cast_add]; congr 1; omega

include hE in
theorem r0_3 (x : S128x128.Idx) (y : S1024x128.Idx) (h0 : (y 0).val = 384 + (x 0).val) (h1 : (y 1).val = (x 1).val) :
    k2_pay41 (k2_pay8 x2) E (k2_pay28 x0) (View.ld xs0 (Rect.unit ![384, 0] ![128, 128] inb_S1024x128_S128x128_384_0)) x
      = xs0 y + accB x2 w x0 (y 0).val (y 1) := by
  have x0_lt : (x 0).val < 128 := (x 0).isLt
  have x1_lt : (x 1).val < 128 := (x 1).isLt
  pointwise [k2_pay41, k2_pay8, k2_pay28, k2_pay40]
  refine band0 x2 E x0 _ hE _ _ _ _ _ _ _ _ (congrArg xs0 (by blk_ext)) ?_ (Fin.ext h1.symm)
  rw [lane _ (by omega), c384, ← Nat.cast_add]; congr 1; omega

include hE in
theorem r0_4 (x : S128x128.Idx) (y : S1024x128.Idx) (h0 : (y 0).val = 512 + (x 0).val) (h1 : (y 1).val = (x 1).val) :
    k2_pay45 (k2_pay8 x2) E (k2_pay28 x0) (View.ld xs0 (Rect.unit ![512, 0] ![128, 128] inb_S1024x128_S128x128_512_0)) x
      = xs0 y + accB x2 w x0 (y 0).val (y 1) := by
  have x0_lt : (x 0).val < 128 := (x 0).isLt
  have x1_lt : (x 1).val < 128 := (x 1).isLt
  pointwise [k2_pay45, k2_pay8, k2_pay28, k2_pay44]
  refine band0 x2 E x0 _ hE _ _ _ _ _ _ _ _ (congrArg xs0 (by blk_ext)) ?_ (Fin.ext h1.symm)
  rw [lane _ (by omega), c512, ← Nat.cast_add]; congr 1; omega

include hE in
theorem r0_5 (x : S128x128.Idx) (y : S1024x128.Idx) (h0 : (y 0).val = 640 + (x 0).val) (h1 : (y 1).val = (x 1).val) :
    k2_pay48 (k2_pay8 x2) E (k2_pay28 x0) (View.ld xs0 (Rect.unit ![640, 0] ![128, 128] inb_S1024x128_S128x128_640_0)) x
      = xs0 y + accB x2 w x0 (y 0).val (y 1) := by
  have x0_lt : (x 0).val < 128 := (x 0).isLt
  have x1_lt : (x 1).val < 128 := (x 1).isLt
  pointwise [k2_pay48, k2_pay8, k2_pay28, k2_pay47]
  refine band0 x2 E x0 _ hE _ _ _ _ _ _ _ _ (congrArg xs0 (by blk_ext)) ?_ (Fin.ext h1.symm)
  rw [lane _ (by omega), c640, ← Nat.cast_add]; congr 1; omega

include hE in
theorem r0_6 (x : S128x128.Idx) (y : S1024x128.Idx) (h0 : (y 0).val = 768 + (x 0).val) (h1 : (y 1).val = (x 1).val) :
    k2_pay51 (k2_pay8 x2) E (k2_pay28 x0) (View.ld xs0 (Rect.unit ![768, 0] ![128, 128] inb_S1024x128_S128x128_768_0)) x
      = xs0 y + accB x2 w x0 (y 0).val (y 1) := by
  have x0_lt : (x 0).val < 128 := (x 0).isLt
  have x1_lt : (x 1).val < 128 := (x 1).isLt
  pointwise [k2_pay51, k2_pay8, k2_pay28, k2_pay50]
  refine band0 x2 E x0 _ hE _ _ _ _ _ _ _ _ (congrArg xs0 (by blk_ext)) ?_ (Fin.ext h1.symm)
  rw [lane _ (by omega), c768, ← Nat.cast_add]; congr 1; omega

include hE in
theorem r0_7 (x : S128x128.Idx) (y : S1024x128.Idx) (h0 : (y 0).val = 896 + (x 0).val) (h1 : (y 1).val = (x 1).val) :
    k2_pay1 (k2_pay28 x0) (k2_pay53 (k2_pay8 x2) E) (View.ld xs0 (Rect.unit ![896, 0] ![128, 128] inb_S1024x128_S128x128_896_0)) (constant S128x128 FTy.f32 0#32) x
      = xs0 y + accB x2 w x0 (y 0).val (y 1) := by
  have x0_lt : (x 0).val < 128 := (x 0).isLt
  have x1_lt : (x 1).val < 128 := (x 1).isLt
  pointwise [k2_pay1, k2_pay28, k2_pay53, k2_pay8]
  refine band0 x2 E x0 _ hE _ _ _ _ _ _ _ _ (congrArg xs0 (by blk_ext)) ?_ (Fin.ext h1.symm)
  rw [lane _ (by omega), c896, ← Nat.cast_add]; congr 1; omega

theorem r1_0 (x : S128x1.Idx) (y : S1024x1.Idx) (h0 : (y 0).val = (x 0).val) (h1 : (y 1).val = (x 1).val) :
    k2_pay31 k2_pay27 (k2_pay29 (k2_pay6 x3) (k2_pay7 x4) (k2_pay8 x2) (k2_pay9 x1) (k2_pay22 (k2_pay6 x3) (k2_pay8 x2) (k2_pay18 (k2_pay6 x3) (k2_pay8 x2) (k2_pay11 x3 x2) (k2_pay13 x2)))
      (k2_pay23 (k2_pay7 x4) (k2_pay8 x2) (k2_pay16 (k2_pay7 x4) (k2_pay8 x2) (k2_pay12 x4 x2) (k2_pay13 x2)) (k2_pay19 (k2_pay7 x4) (k2_pay8 x2)))
      (k2_pay24 (k2_pay8 x2)) (k2_pay25 (k2_pay6 x3) (k2_pay8 x2))) (View.ld xs1 (Rect.unit ![0, 0] ![128, 1] inb_S1024x1_S128x1_0_0)) x
      = xs1 y + swB x2 (wB x1 x2 x3 x4) (y 0).val := by
  have x0_lt : (x 0).val < 128 := (x 0).isLt
  have x1_lt : (x 1).val < 1 := (x 1).isLt
  have hE := payW x1 x2 x3 x4
  unfold k2_pay29
  change k2_pay31 k2_pay27 (select _ (wPay x1 x2 x3 x4) _) _ x = _
  revert hE
  generalize wPay x1 x2 x3 x4 = E
  intro hE
  pointwise [k2_pay31, k2_pay28, k2_pay8, k2_pay27]
  refine band1 x2 E _ hE _ _ _ _ _ _ (congrArg xs1 (by blk_ext)) ?_
  rw [lane _ (by omega)]; congr 1; omega

include hE in
theorem r1_1 (x : S128x1.Idx) (y : S1024x1.Idx) (h0 : (y 0).val = 128 + (x 0).val) (h1 : (y 1).val = (x 1).val) :
    k2_pay34 (k2_pay8 x2) E k2_pay27 (View.ld xs1 (Rect.unit ![128, 0] ![128, 1] inb_S1024x1_S128x1_128_0)) x
      = xs1 y + swB x2 w (y 0).val := by
  have x0_lt : (x 0).val < 128 := (x 0).isLt
  have x1_lt : (x 1).val < 1 := (x 1).isLt
  pointwise [k2_pay34, k2_pay8, k2_pay27, k2_pay32]
  refine band1 x2 E _ hE _ _ _ _ _ _ (congrArg xs1 (by blk_ext)) ?_
  rw [lane _ (by omega), c128, ← Nat.cast_add]; congr 1; omega

include hE in
theorem r1_2 (x : S128x1.Idx) (y : S1024x1.Idx) (h0 : (y 0).val = 256 + (x 0).val) (h1 : (y 1).val = (x 1).val) :
    k2_pay39 (k2_pay8 x2) E k2_pay27 k2_pay35 k2_pay36 (View.ld xs1 (Rect.unit ![256, 0] ![128, 1] inb_S1024x1_S128x1_256_0)) x
      = xs1 y + swB x2 w (y 0).val := by
  have x0_lt : (x 0).val < 128 := (x 0).isLt
  have x1_lt : (x 1).val < 1 := (x 1).isLt
  pointwise [k2_pay39, k2_pay8, k2_pay27, k2_pay35, k2_pay36, k2_pay37]
  refine band1 x2 E _ hE _ _ _ _ _ _ (congrArg xs1 (by blk_ext)) ?_
  rw [lane _ (by omega), c256, ← Nat.cast_add]; congr 1; omega

include hE in
theorem r1_3 (x : S128x1.Idx) (y : S1024x1.Idx) (h0 : (y 0).val = 384 + (x 0).val) (h1 : (y 1).val = (x 1).val) :
    k2_pay43 (k2_pay42 (k2_pay8 x2) E k2_pay27 (View.ld xs1 (Rect.unit ![384, 0] ![128, 1] inb_S1024x1_S128x1_384_0))) x
      = xs1 y + swB x2 w (y 0).val := by
  have x0_lt : (x 0).val < 128 := (x 0).isLt
  have x1_lt : (x 1).val < 1 := (x 1).isLt
  pointwise [k2_pay43, k2_pay42, k2_pay8, k2_pay27, k2_pay40]
  refine band1 x2 E _ hE _ _ _ _ _ _ (congrArg xs1 (by blk_ext)) ?_
  rw [lane _ (by omega), c384, ← Nat.cast_add]; congr 1; omega

include hE in
theorem r1_4 (x : S128x1.Idx) (y : S1024x1.Idx) (h0 : (y 0).val = 512 + (x 0).val) (h1 : (y 1).val = (x 1).val) :
    k2_pay46 (k2_pay8 x2) E k2_pay27 (View.ld xs1 (Rect.unit ![512, 0] ![128, 1] inb_S1024x1_S128x1_512_0)) x
      = xs1 y + swB x2 w (y 0).val := by
  have x0_lt : (x 0).val < 128 := (x 0).isLt
  have x1_lt : (x 1).val < 1 := (x 1).isLt
  pointwise [k2_pay46, k2_pay8, k2_pay27, k2_pay44]
  refine band1 x2 E _ hE _ _ _ _ _ _ (congrArg xs1 (by blk_ext)) ?_
  rw [lane _ (by omega), c512, ← Nat.cast_add]; congr 1; omega

include hE in
theorem r1_5 (x : S128x1.Idx) (y : S1024x1.Idx) (h0 : (y 0).val = 640 + (x 0).val) (h1 : (y 1).val = (x 1).val) :
    k2_pay49 k2_pay27 (k2_pay47 (k2_pay8 x2) E) (View.ld xs1 (Rect.unit ![640, 0] ![128, 1] inb_S1024x1_S128x1_640_0)) x
      = xs1 y + swB x2 w (y 0).val := by
  have x0_lt : (x 0).val < 128 := (x 0).isLt
  have x1_lt : (x 1).val < 1 := (x 1).isLt
  pointwise [k2_pay49, k2_pay27, k2_pay47, k2_pay8]
  refine band1 x2 E _ hE _ _ _ _ _ _ (congrArg xs1 (by blk_ext)) ?_
  rw [lane _ (by omega), c640, ← Nat.cast_add]; congr 1; omega

include hE in
theorem r1_6 (x : S128x1.Idx) (y : S1024x1.Idx) (h0 : (y 0).val = 768 + (x 0).val) (h1 : (y 1).val = (x 1).val) :
    k2_pay52 (k2_pay8 x2) E k2_pay27 (View.ld xs1 (Rect.unit ![768, 0] ![128, 1] inb_S1024x1_S128x1_768_0)) x
      = xs1 y + swB x2 w (y 0).val := by
  have x0_lt : (x 0).val < 128 := (x 0).isLt
  have x1_lt : (x 1).val < 1 := (x 1).isLt
  pointwise [k2_pay52, k2_pay8, k2_pay27, k2_pay50]
  refine band1 x2 E _ hE _ _ _ _ _ _ (congrArg xs1 (by blk_ext)) ?_
  rw [lane _ (by omega), c768, ← Nat.cast_add]; congr 1; omega

include hE in
theorem r1_7 (x : S128x1.Idx) (y : S1024x1.Idx) (h0 : (y 0).val = 896 + (x 0).val) (h1 : (y 1).val = (x 1).val) :
    k2_pay2 k2_pay27 (k2_pay53 (k2_pay8 x2) E) (View.ld xs1 (Rect.unit ![896, 0] ![128, 1] inb_S1024x1_S128x1_896_0)) x
      = xs1 y + swB x2 w (y 0).val := by
  have x0_lt : (x 0).val < 128 := (x 0).isLt
  have x1_lt : (x 1).val < 1 := (x 1).isLt
  pointwise [k2_pay2, k2_pay27, k2_pay53, k2_pay8]
  refine band1 x2 E _ hE _ _ _ _ _ _ (congrArg xs1 (by blk_ext)) ?_
  rw [lane _ (by omega), c896, ← Nat.cast_add]; congr 1; omega

end Bands

theorem sout0_B (c : Dev nD) (t : Fin cfg2.N) (hc0 : ¬cond_0 (grid2.coords t)) (hc1 : ¬cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32)
     (xs0 : Vec Ideal S1024x128 .f32) (xs1 : Vec Ideal S1024x1 .f32) (y : S1024x128.Idx) :
    sout_B_0 c t hc0 hc1 x0 x1 x2 x3 x4 x5 x6 xs0 xs1 y = xs0 y + accB x2 (wB x1 x2 x3 x4) x0 (y 0).val (y 1) := by
  unfold sout_B_0 kernelRun_B bodyRun_B; dsimp only; frame_out
  simp only [read_unread_whole]
  have hE := payW x1 x2 x3 x4
  canon_tiles x h
  · exact r0_7 x0 x2 xs0 _ _ hE x y h0 h1
  · exact r0_6 x0 x2 xs0 _ _ hE x y h0 h1
  · exact r0_5 x0 x2 xs0 _ _ hE x y h0 h1
  · exact r0_4 x0 x2 xs0 _ _ hE x y h0 h1
  · exact r0_3 x0 x2 xs0 _ _ hE x y h0 h1
  · exact r0_2 x0 x2 xs0 _ _ hE x y h0 h1
  · exact r0_1 x0 x2 xs0 _ _ hE x y h0 h1
  · exact r0_0 x0 x1 x2 x3 x4 xs0 x y h0 h1

theorem sout1_B (c : Dev nD) (t : Fin cfg2.N) (hc0 : ¬cond_0 (grid2.coords t)) (hc1 : ¬cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32)
     (xs0 : Vec Ideal S1024x128 .f32) (xs1 : Vec Ideal S1024x1 .f32) (y : S1024x1.Idx) :
    sout_B_1 c t hc0 hc1 x0 x1 x2 x3 x4 x5 x6 xs0 xs1 y = xs1 y + swB x2 (wB x1 x2 x3 x4) (y 0).val := by
  unfold sout_B_1 kernelRun_B bodyRun_B; dsimp only; frame_out
  simp only [read_unread_whole]
  have hE := payW x1 x2 x3 x4
  canon_tiles x h
  · exact r1_7 x2 xs1 _ _ hE x y h0 h1
  · exact r1_6 x2 xs1 _ _ hE x y h0 h1
  · exact r1_5 x2 xs1 _ _ hE x y h0 h1
  · exact r1_4 x2 xs1 _ _ hE x y h0 h1
  · exact r1_3 x2 xs1 _ _ hE x y h0 h1
  · exact r1_2 x2 xs1 _ _ hE x y h0 h1
  · exact r1_1 x2 xs1 _ _ hE x y h0 h1
  · exact r1_0 x1 x2 x3 x4 xs1 x y h0 h1

theorem sout0_C (c : Dev nD) (t : Fin cfg2.N) (hc0 : ¬cond_0 (grid2.coords t)) (hc1 : cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32)
     (xs0 : Vec Ideal S1024x128 .f32) (xs1 : Vec Ideal S1024x1 .f32) (y : S1024x128.Idx) :
    sout_C_0 c t hc0 hc1 x0 x1 x2 x3 x4 x5 x6 xs0 xs1 y = xs0 y + accB x2 (wB x1 x2 x3 x4) x0 (y 0).val (y 1) := by
  unfold sout_C_0 kernelRun_C bodyRun_C; dsimp only; frame_out
  simp only [read_unread_whole]
  have hE := payW x1 x2 x3 x4
  canon_tiles x h
  · exact r0_7 x0 x2 xs0 _ _ hE x y h0 h1
  · exact r0_6 x0 x2 xs0 _ _ hE x y h0 h1
  · exact r0_5 x0 x2 xs0 _ _ hE x y h0 h1
  · exact r0_4 x0 x2 xs0 _ _ hE x y h0 h1
  · exact r0_3 x0 x2 xs0 _ _ hE x y h0 h1
  · exact r0_2 x0 x2 xs0 _ _ hE x y h0 h1
  · exact r0_1 x0 x2 xs0 _ _ hE x y h0 h1
  · exact r0_0 x0 x1 x2 x3 x4 xs0 x y h0 h1

theorem sout1_C (c : Dev nD) (t : Fin cfg2.N) (hc0 : ¬cond_0 (grid2.coords t)) (hc1 : cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32)
     (xs0 : Vec Ideal S1024x128 .f32) (xs1 : Vec Ideal S1024x1 .f32) (y : S1024x1.Idx) :
    sout_C_1 c t hc0 hc1 x0 x1 x2 x3 x4 x5 x6 xs0 xs1 y = xs1 y + swB x2 (wB x1 x2 x3 x4) (y 0).val := by
  unfold sout_C_1 kernelRun_C bodyRun_C; dsimp only; frame_out
  simp only [read_unread_whole]
  have hE := payW x1 x2 x3 x4
  canon_tiles x h
  · exact r1_7 x2 xs1 _ _ hE x y h0 h1
  · exact r1_6 x2 xs1 _ _ hE x y h0 h1
  · exact r1_5 x2 xs1 _ _ hE x y h0 h1
  · exact r1_4 x2 xs1 _ _ hE x y h0 h1
  · exact r1_3 x2 xs1 _ _ hE x y h0 h1
  · exact r1_2 x2 xs1 _ _ hE x y h0 h1
  · exact r1_1 x2 xs1 _ _ hE x y h0 h1
  · exact r1_0 x1 x2 x3 x4 xs1 x y h0 h1

theorem sout0_A (c : Dev nD) (t : Fin cfg2.N) (hc0 : cond_0 (grid2.coords t)) (hc1 : ¬cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32) (y : S1024x128.Idx) :
    sout_A_0 c t hc0 hc1 x0 x1 x2 x3 x4 x5 x6 y = 0 + accB x2 (wB x1 x2 x3 x4) x0 (y 0).val (y 1) := by
  have hz : ∀ i, (k2_pay4 (F := Ideal)) i = 0 := fun i => by pointwise [k2_pay4]
  rw [← hz y]
  have hE := payW x1 x2 x3 x4
  unfold sout_A_0 kernelRun_A bodyRun_A; dsimp only
  frame_open
  simp (disch := decide) only [↓ View.readCov_skip, ↓ View.readCov_cons_toLoadRect, ↓ View.readCov_fill]
  frame_out
  generalize k2_pay4 (F := Ideal) = xs0
  refine View.canon_append_of_piecesOf (Val := Elt Ideal) (e := .f32) (s := S1024x128) (fun y => xs0 y + accB x2 (wB x1 x2 x3 x4) x0 (y 0).val (y 1)) [_] [_, _, _, _, _, _, _, _] ?_ y ?_
  · refine ⟨fun x => r0_7 x0 x2 xs0 _ _ hE x _ ?_ ?_,
      fun x => r0_6 x0 x2 xs0 _ _ hE x _ ?_ ?_,
      fun x => r0_5 x0 x2 xs0 _ _ hE x _ ?_ ?_,
      fun x => r0_4 x0 x2 xs0 _ _ hE x _ ?_ ?_,
      fun x => r0_3 x0 x2 xs0 _ _ hE x _ ?_ ?_,
      fun x => r0_2 x0 x2 xs0 _ _ hE x _ ?_ ?_,
      fun x => r0_1 x0 x2 xs0 _ _ hE x _ ?_ ?_,
      fun x => r0_0 x0 x1 x2 x3 x4 xs0 x _ ?_ ?_, trivial⟩
    all_goals (change _ + 1 * _ = _; simp)
  · exact View.cover_of_tiledL (s := S1024x128) _ S128x128.size (by sl_kernel_rfl) y

theorem sout1_A (c : Dev nD) (t : Fin cfg2.N) (hc0 : cond_0 (grid2.coords t)) (hc1 : ¬cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32) (y : S1024x1.Idx) :
    sout_A_1 c t hc0 hc1 x0 x1 x2 x3 x4 x5 x6 y = 0 + swB x2 (wB x1 x2 x3 x4) (y 0).val := by
  have hz : ∀ i, (k2_pay5 (F := Ideal)) i = 0 := fun i => by pointwise [k2_pay5]
  rw [← hz y]
  have hE := payW x1 x2 x3 x4
  unfold sout_A_1 kernelRun_A bodyRun_A; dsimp only
  frame_open
  simp (disch := decide) only [↓ View.readCov_skip, ↓ View.readCov_cons_toLoadRect, ↓ View.readCov_fill]
  frame_out
  generalize k2_pay5 (F := Ideal) = xs1
  refine View.canon_append_of_piecesOf (Val := Elt Ideal) (e := .f32) (s := S1024x1) (fun y => xs1 y + swB x2 (wB x1 x2 x3 x4) (y 0).val) [_] [_, _, _, _, _, _, _, _] ?_ y ?_
  · refine ⟨fun x => r1_7 x2 xs1 _ _ hE x _ ?_ ?_,
      fun x => r1_6 x2 xs1 _ _ hE x _ ?_ ?_,
      fun x => r1_5 x2 xs1 _ _ hE x _ ?_ ?_,
      fun x => r1_4 x2 xs1 _ _ hE x _ ?_ ?_,
      fun x => r1_3 x2 xs1 _ _ hE x _ ?_ ?_,
      fun x => r1_2 x2 xs1 _ _ hE x _ ?_ ?_,
      fun x => r1_1 x2 xs1 _ _ hE x _ ?_ ?_,
      fun x => r1_0 x1 x2 x3 x4 xs1 x _ ?_ ?_, trivial⟩
    all_goals (change _ + 1 * _ = _; simp)
  · exact View.cover_of_tiledL (s := S1024x1) _ S128x1.size (by sl_kernel_rfl) y

theorem out7_C (c : Dev nD) (t : Fin cfg2.N) (hc0 : ¬cond_0 (grid2.coords t)) (hc1 : cond_1 (grid2.coords t))
    (x0 : Vec Ideal S2048x128 .f32) (x1 : Vec Ideal S2048x1 .f32) (x2 : Vec Ideal S2048x1 .f32) (x3 x4 : Vec Ideal S8x128 .f32) (x5 : Vec Ideal S128x128 .f32) (x6 : Vec Ideal S1x128 .f32)
     (xs0 : Vec Ideal S1024x128 .f32) (xs1 : Vec Ideal S1024x1 .f32) :
    out_C_7 c t hc0 hc1 x0 x1 x2 x3 x4 x5 x6 xs0 xs1
      = k2_pay3 (F := Ideal) (fun y => xs0 y + accB x2 (wB x1 x2 x3 x4) x0 (y 0).val (y 1)) x5
          (fun y => xs1 y + swB x2 (wB x1 x2 x3 x4) (y 0).val) x6 := by
  unfold out_C_7 kernelRun_C bodyRun_C; dsimp only; frame_out
  simp only [read_unread_whole]
  have hE := payW x1 x2 x3 x4
  congr 1
  · rw [readCov_whole _ _ _ (by decide)]
    funext y
    canon_tiles x h
    · exact r0_7 x0 x2 xs0 _ _ hE x y h0 h1
    · exact r0_6 x0 x2 xs0 _ _ hE x y h0 h1
    · exact r0_5 x0 x2 xs0 _ _ hE x y h0 h1
    · exact r0_4 x0 x2 xs0 _ _ hE x y h0 h1
    · exact r0_3 x0 x2 xs0 _ _ hE x y h0 h1
    · exact r0_2 x0 x2 xs0 _ _ hE x y h0 h1
    · exact r0_1 x0 x2 xs0 _ _ hE x y h0 h1
    · exact r0_0 x0 x1 x2 x3 x4 xs0 x y h0 h1
  · rw [readCov_whole _ _ _ (by decide)]
    funext y
    canon_tiles x h
    · exact r1_7 x2 xs1 _ _ hE x y h0 h1
    · exact r1_6 x2 xs1 _ _ hE x y h0 h1
    · exact r1_5 x2 xs1 _ _ hE x y h0 h1
    · exact r1_4 x2 xs1 _ _ hE x y h0 h1
    · exact r1_3 x2 xs1 _ _ hE x y h0 h1
    · exact r1_2 x2 xs1 _ _ hE x y h0 h1
    · exact r1_1 x2 xs1 _ _ hE x y h0 h1
    · exact r1_0 x1 x2 x3 x4 xs1 x y h0 h1

end Cert.KernelIdeal.R2
end
-- ==== Proof.KI.Val2.lean ====
/- Kernel region 2: what its output array holds after the whole grid. -/
module

public import proofs.«01_k».proof.Proof.KI.Step2
public import proofs.«01_k».proof.Proof.Rows

@[expose] public section

set_option maxRecDepth 16384

noncomputable section

namespace Cert.KernelIdeal.R2
open Cert.KernelIdeal Cert.KernelIdeal.Gen
open Idealize.ShloMosaic Idealize.ShloMosaic.TcCoe
open Cert.Consts Cert.Rows
open Cert.KernelIdeal.R1 (tab)

variable (W : Dev nD → Valuation τ sig (Elt Ideal))

theorem idx0 (t : Fin cfg2.N) : (cfg2.win 0).index t = ![t.val, 0] := by revert t; decide +kernel
theorem idx1 (t : Fin cfg2.N) : (cfg2.win 1).index t = ![t.val, 0] := by revert t; decide +kernel
theorem idx2 (t : Fin cfg2.N) : (cfg2.win 2).index t = ![t.val, 0] := by revert t; decide +kernel
theorem idx3 (t : Fin cfg2.N) : (cfg2.win 3).index t = ![0, 0] := by revert t; decide +kernel
theorem idx4 (t : Fin cfg2.N) : (cfg2.win 4).index t = ![0, 0] := by revert t; decide +kernel
theorem idx5 (t : Fin cfg2.N) : (cfg2.win 5).index t = ![0, 0] := by revert t; decide +kernel
theorem idx6 (t : Fin cfg2.N) : (cfg2.win 6).index t = ![0, 0] := by revert t; decide +kernel

theorem N49 : cfg2.N = 49 := N_2

theorem blk0 (c : Dev nD) (t : Fin cfg2.N) (q : Fin 2048) (k : Fin 128) :
    iblk W c 0 t (ix2 q k) = W c main_v0 (ix2 (row N49 t q) k) := by
  blk_ext [iblk, V, idx0 t, row]
theorem blk1 (c : Dev nD) (t : Fin cfg2.N) (q : Fin 2048) (z : Fin 1) :
    iblk W c 1 t (ix2 q z) = W c main_v6_0 (ix2 (row N49 t q) z) := by
  blk_ext [iblk, V, idx1 t, row]
theorem blk2 (c : Dev nD) (t : Fin cfg2.N) (q : Fin 2048) (z : Fin 1) :
    iblk W c 2 t (ix2 q z) = W c main_v3 (ix2 (row N49 t q) z) := by
  blk_ext [iblk, V, idx2 t, row]
theorem blk3 (c : Dev nD) (t : Fin cfg2.N) : tab (iblk W c 3 t) = tab (W c main_v6_1) := by
  funext b l
  unfold tab
  blk_ext [iblk, V, idx3 t]
theorem blk4 (c : Dev nD) (t : Fin cfg2.N) : tab (iblk W c 4 t) = tab (W c main_v7) := by
  funext b l
  unfold tab
  blk_ext [iblk, V, idx4 t]
theorem blk5 (c : Dev nD) (t : Fin cfg2.N) (k d : Fin 128) : iblk W c 5 t (ix2 k d) = W c main_arg4 (ix2 k d) := by
  blk_ext [iblk, V, idx5 t]
theorem blk6 (c : Dev nD) (t : Fin cfg2.N) (z : Fin 1) (d : Fin 128) : iblk W c 6 t (ix2 z d) = W c main_v5 (ix2 z d) := by
  blk_ext [iblk, V, idx6 t]

/-- The weight of row `r`: the exponential of its gate less the maximum that its index picks, over the sum that its
    index picks. -/
def wR (gate idx : Vec Ideal S100352x1 .f32) (gmax gsum : Vec Ideal S8x128 .f32) (r : Fin 100352) : EReal :=
  Ideal.div (Ideal.exp (gate (ix2 r 0) - pick (tab gmax) (idx (ix2 r 0)))) (pick (tab gsum) (idx (ix2 r 0)) + eps)

/-- The weights this region computes from its entry contents. -/
def weights (c : Dev nD) (r : Fin 100352) : EReal := wR (W c main_v6_0) (W c main_v3) (W c main_v6_1) (W c main_v7) r

/-- The weighted sum of column `d` of the rows whose index is `s`. -/
def accR (idx : Vec Ideal S100352x1 .f32) (w : Fin 100352 → EReal) (x : Vec Ideal S100352x128 .f32) (s : ℕ) (d : Fin 128) : EReal :=
  ∑ r : Fin 100352, (if idx (ix2 r 0) = ((s : ℕ) : EReal) then w r else 0) * x (ix2 r d)

/-- The sum of the weights of the rows whose index is `s`. -/
def swR (idx : Vec Ideal S100352x1 .f32) (w : Fin 100352 → EReal) (s : ℕ) : EReal :=
  ∑ r : Fin 100352, (if idx (ix2 r 0) = ((s : ℕ) : EReal) then w r else 0)

theorem accB_blk (c : Dev nD) (t : Fin cfg2.N) (s : ℕ) (d : Fin 128) :
    accB (iblk W c 2 t) (wB (iblk W c 1 t) (iblk W c 2 t) (iblk W c 3 t) (iblk W c 4 t)) (iblk W c 0 t) s d
      = ∑ q : Fin 2048, (if W c main_v3 (ix2 (row N49 t q) 0) = ((s : ℕ) : EReal) then weights W c (row N49 t q) else 0)
          * W c main_v0 (ix2 (row N49 t q) d) := by
  unfold accB wB weights wR
  simp only [blk0, blk1, blk2, blk3, blk4]

theorem swB_blk (c : Dev nD) (t : Fin cfg2.N) (s : ℕ) :
    swB (iblk W c 2 t) (wB (iblk W c 1 t) (iblk W c 2 t) (iblk W c 3 t) (iblk W c 4 t)) s
      = ∑ q : Fin 2048, (if W c main_v3 (ix2 (row N49 t q) 0) = ((s : ℕ) : EReal) then weights W c (row N49 t q) else 0) := by
  unfold swB wB weights wR
  simp only [blk1, blk2, blk3, blk4]

/-- The last grid point. -/
def tLast : Fin cfg2.N := ⟨48, by rw [N49]; omega⟩

theorem acc_step (c : Dev nD) (t : Fin cfg2.N) (h : ¬t.val % 49 = 0) (y : S1024x128.Idx) :
    (outsAt W c t.val t.isLt).2.1 y = (outsAt W c (t.val - 1) (Nat.lt_of_le_of_lt (Nat.sub_le _ _) t.isLt)).2.1 y
      + accB (iblk W c 2 t) (wB (iblk W c 1 t) (iblk W c 2 t) (iblk W c 3 t) (iblk W c 4 t)) (iblk W c 0 t) (y 0).val (y 1) := by
  by_cases h1 : t.val % 49 = 48
  · rw [outsAt_C W c t h h1]; dsimp only; rw [sout0_C]
  · rw [outsAt_B W c t h h1]; dsimp only; rw [sout0_B]

/-- What the first point leaves. -/
theorem acc_first (c : Dev nD) (t : Fin cfg2.N) (h : t.val % 49 = 0) (y : S1024x128.Idx) :
    (outsAt W c t.val t.isLt).2.1 y = 0
      + accB (iblk W c 2 t) (wB (iblk W c 1 t) (iblk W c 2 t) (iblk W c 3 t) (iblk W c 4 t)) (iblk W c 0 t) (y 0).val (y 1) := by
  rw [outsAt_A W c t h (by omega)]; dsimp only; rw [sout0_A]

theorem sw_first (c : Dev nD) (t : Fin cfg2.N) (h : t.val % 49 = 0) (y : S1024x1.Idx) :
    (outsAt W c t.val t.isLt).2.2 y = 0
      + swB (iblk W c 2 t) (wB (iblk W c 1 t) (iblk W c 2 t) (iblk W c 3 t) (iblk W c 4 t)) (y 0).val := by
  rw [outsAt_A W c t h (by omega)]; dsimp only; rw [sout1_A]

theorem sw_step (c : Dev nD) (t : Fin cfg2.N) (h : ¬t.val % 49 = 0) (y : S1024x1.Idx) :
    (outsAt W c t.val t.isLt).2.2 y = (outsAt W c (t.val - 1) (Nat.lt_of_le_of_lt (Nat.sub_le _ _) t.isLt)).2.2 y
      + swB (iblk W c 2 t) (wB (iblk W c 1 t) (iblk W c 2 t) (iblk W c 3 t) (iblk W c 4 t)) (y 0).val := by
  by_cases h1 : t.val % 49 = 48
  · rw [outsAt_C W c t h h1]; dsimp only; rw [sout1_C]
  · rw [outsAt_B W c t h h1]; dsimp only; rw [sout1_B]

theorem acc_at (c : Dev nD) (s : Fin 1024) (d : Fin 128) :
    (outsAt W c tLast.val tLast.isLt).2.1 (ix2 s d) = accR (W c main_v3) (weights W c) (W c main_v0) s.val d := by
  rw [Pipeline.eq_sum_fin_of_reset_step_apply_last (fun n h => (outsAt W c n h).2.1) 49 (fun _ => (0 : EReal))
    (fun t y => accB (iblk W c 2 t) (wB (iblk W c 1 t) (iblk W c 2 t) (iblk W c 3 t) (iblk W c 4 t)) (iblk W c 0 t) (y 0).val (y 1))
    (acc_first W c) (acc_step W c) N49.le tLast N49.symm (ix2 s d)]
  simp only [accB_blk, zero_add, ix2_0, ix2_1]
  exact sum_rows N49 fun r => (if W c main_v3 (ix2 r 0) = ((s.val : ℕ) : EReal) then weights W c r else 0) * W c main_v0 (ix2 r d)

theorem sw_at (c : Dev nD) (y : S1024x1.Idx) :
    (outsAt W c tLast.val tLast.isLt).2.2 y = swR (W c main_v3) (weights W c) (y 0).val := by
  rw [Pipeline.eq_sum_fin_of_reset_step_apply_last (fun n h => (outsAt W c n h).2.2) 49 (fun _ => (0 : EReal))
    (fun t y => swB (iblk W c 2 t) (wB (iblk W c 1 t) (iblk W c 2 t) (iblk W c 3 t) (iblk W c 4 t)) (y 0).val)
    (sw_first W c)
    (sw_step W c) N49.le tLast N49.symm y]
  simp only [swB_blk, zero_add]
  exact sum_rows N49 fun r => if W c main_v3 (ix2 r 0) = (((y 0).val : ℕ) : EReal) then weights W c r else 0

/-- What the last point stores: the two running sums, the one through the matrix and the other times the bias. -/
theorem out_at (c : Dev nD) (s : Fin 1024) (d : Fin 128) :
    (outsAt W c tLast.val tLast.isLt).1 (ix2 s d)
      = ∑ k : Fin 128, accR (W c main_v3) (weights W c) (W c main_v0) s.val k * W c main_arg4 (ix2 k d)
        + swR (W c main_v3) (weights W c) s.val * W c main_v5 (ix2 0 d) := by
  have h0 : ¬tLast.val % 49 = 0 := by decide
  have h1 : tLast.val % 49 = 48 := by decide
  have e : (outsAt W c tLast.val tLast.isLt).1
      = k2_pay3 (F := Ideal) (outsAt W c tLast.val tLast.isLt).2.1 (iblk W c 5 tLast) (outsAt W c tLast.val tLast.isLt).2.2 (iblk W c 6 tLast) := by
    rw [show (outsAt W c tLast.val tLast.isLt).2.1 = _ from funext fun y => acc_step W c tLast h0 y,
      show (outsAt W c tLast.val tLast.isLt).2.2 = _ from funext fun y => sw_step W c tLast h0 y,
      outsAt_C W c tLast h0 h1]
    dsimp only
    rw [out7_C]
  rw [e]
  pointwise [k2_pay3]
  simp only [acc_at, sw_at, blk5, blk6, ix2_0, ix2_1]

/-- The result. -/
theorem out_arr (c : Dev nD) : (dats W c).arrAt 7 cfg2.N = fun i : S1024x128.Idx =>
    ∑ k : Fin 128, accR (W c main_v3) (weights W c) (W c main_v0) (i 0).val k * W c main_arg4 (ix2 k (i 1))
        + swR (W c main_v3) (weights W c) (i 0).val * W c main_v5 (ix2 0 (i 1)) := by
  refine (dats W c).arrAt_eq_of_after_last 7 tLast (by decide +kernel) _ fun j => ?_
  blk_simp
  rw [after_7]
  have e : j = ix2 (n0 := 1024) (n1 := 128) (j 0) (j 1) := by blk_ext
  rw [e]
  exact out_at W c (j 0) (j 1)

end Cert.KernelIdeal.R2

end
-- ==== Proof.Math.lean ====
/- The mathematics of attention pooling in the extended reals. Over a finite set of rows, of which `P` are the members of
   one segment, the softmax weights of the members are non-negative reals whatever the gates are (an infinite gate
   included), so that pooling commutes with the linear projection: the weighted sum of the projected rows is the
   projection of the weighted sum plus the sum of the weights times the bias. -/
module

public import proofs.«01_k».proof.Proof.Consts

@[expose] public section

noncomputable section

namespace Cert.Math
open Idealize.ShloMosaic

variable {ι κ : Type} [Fintype ι] [Fintype κ] (P : ι → Prop) [DecidablePred P]

/-- The greatest gate of the members, the bottom element when there is none. -/
def top (g : ι → EReal) : EReal := Finset.univ.sup fun i => if P i then g i else ⊥

/-- A row's exponential less the greatest gate. -/
def ex (g : ι → EReal) (i : ι) : EReal := Ideal.exp (g i - top P g)

/-- The sum of the members' exponentials. -/
def tot (g : ι → EReal) : EReal := ∑ i, if P i then ex P g i else 0

/-- A row's softmax weight, with `e` added under the quotient. -/
def wt (e : EReal) (g : ι → EReal) (i : ι) : EReal := Ideal.div (ex P g i) (tot P g + e)

/-- Being a non-negative real. -/
def NonnegReal (y : EReal) : Prop := ∃ r : ℝ, 0 ≤ r ∧ y = (r : EReal)

theorem nonneg_zero : NonnegReal 0 := ⟨0, le_refl _, by simp⟩

theorem nonneg_add {y z : EReal} : NonnegReal y → NonnegReal z → NonnegReal (y + z) := by
  rintro ⟨a, ha, rfl⟩ ⟨b, hb, rfl⟩
  exact ⟨a + b, add_nonneg ha hb, by rw [EReal.coe_add]⟩

theorem nonneg_sum {f : ι → EReal} (h : ∀ i, NonnegReal (f i)) : NonnegReal (∑ i, f i) := by
  classical
  induction (Finset.univ : Finset ι) using Finset.induction_on with
  | empty => simpa using nonneg_zero
  | insert a s ha ih => rw [Finset.sum_insert ha]; exact nonneg_add (h a) ih

theorem exp_nonneg_real {y : EReal} (h : y ≤ 0) : NonnegReal (Ideal.exp y) := by
  induction y using EReal.rec with
  | bot => exact nonneg_zero
  | top => simp at h
  | coe r => exact ⟨Real.exp r, (Real.exp_pos r).le, rfl⟩

theorem sub_nonpos_of_le {y z : EReal} (h : y ≤ z) : y - z ≤ 0 := by
  induction z using EReal.rec with
  | bot => rw [le_bot_iff.1 h]; simp
  | top => simp
  | coe r =>
    induction y using EReal.rec with
    | bot => simp
    | top => simp at h
    | coe q => rw [← EReal.coe_sub]; exact_mod_cast sub_nonpos.2 (EReal.coe_le_coe_iff.1 h)

theorem ex_nonneg (g : ι → EReal) (i : ι) (hi : P i) : NonnegReal (ex P g i) := by
  refine exp_nonneg_real (sub_nonpos_of_le ?_)
  have := Finset.le_sup (f := fun i => if P i then g i else ⊥) (Finset.mem_univ i)
  simpa [hi, top] using this

theorem tot_nonneg (g : ι → EReal) : NonnegReal (tot P g) := by
  refine nonneg_sum fun i => ?_
  by_cases h : P i
  · simpa [h] using ex_nonneg P g i h
  · simpa [h] using nonneg_zero

theorem div_nonneg_real {y z : EReal} (hy : NonnegReal y) (hz : ∃ r : ℝ, 0 < r ∧ z = (r : EReal)) : NonnegReal (Ideal.div y z) := by
  obtain ⟨a, ha, rfl⟩ := hy
  obtain ⟨b, hb, rfl⟩ := hz
  unfold Ideal.div
  rw [if_neg (by exact_mod_cast hb.ne')]
  exact ⟨a * b⁻¹, mul_nonneg ha (inv_nonneg.2 hb.le), by rw [EReal.coe_mul, EReal.coe_inv]⟩

/-- A member's weight is a non-negative real. -/
theorem wt_nonneg {e : EReal} (he : ∃ r : ℝ, 0 < r ∧ e = (r : EReal)) (g : ι → EReal) (i : ι) (hi : P i) : NonnegReal (wt P e g i) := by
  refine div_nonneg_real (ex_nonneg P g i hi) ?_
  obtain ⟨a, ha, h1⟩ := tot_nonneg P g
  obtain ⟨b, hb, h2⟩ := he
  exact ⟨a + b, add_pos_of_nonneg_of_pos ha hb, by rw [h1, h2, EReal.coe_add]⟩

theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem sum_mul_nonneg (w : ι → EReal) (hw : ∀ i, NonnegReal (w i)) (b : EReal) : (∑ i, w i) * b = ∑ i, w i * b := by
  classical
  have nn : ∀ s : Finset ι, NonnegReal (∑ i ∈ s, w i) := fun s => by
    induction s using Finset.induction_on with
    | empty => simpa using nonneg_zero
    | insert a s ha ih => rw [Finset.sum_insert ha]; exact nonneg_add (hw a) ih
  have pos : ∀ {y : EReal}, NonnegReal y → 0 ≤ y := by rintro _ ⟨r, hr, rfl⟩; exact_mod_cast hr
  induction (Finset.univ : Finset ι) using Finset.induction_on with
  | empty => simp
  | insert a s ha ih =>
    rw [Finset.sum_insert ha, Finset.sum_insert ha, EReal.right_distrib_of_nonneg (pos (hw a)) (pos (nn s)), ih]

/-- Pooling commutes with the projection: `x` and the column `u` of the projection real, the bias `b` anything. -/
theorem pool_project (w : ι → EReal) (hw : ∀ i, P i → NonnegReal (w i)) (x : ι → κ → EReal) (u : κ → EReal) (b : EReal)
    (hx : ∀ i k, ∃ r : ℝ, x i k = (r : EReal)) (hu : ∀ k, ∃ r : ℝ, u k = (r : EReal)) :
    ∑ k, (∑ i, (if P i then w i else 0) * x i k) * u k + (∑ i, if P i then w i else 0) * b
      = ∑ i, if P i then w i * (∑ k, x i k * u k + b) else 0 := by
  have hv : ∀ i, NonnegReal (if P i then w i else 0) := fun i => by
    by_cases h : P i
    · simpa [h] using hw i h
    · simpa [h] using nonneg_zero
  have e : ∀ i, (if P i then w i * (∑ k, x i k * u k + b) else 0) = (if P i then w i else 0) * (∑ k, x i k * u k + b) := fun i => by
    by_cases h : P i <;> simp [h]
  simp only [e]
  obtain ⟨v, hd⟩ : ∃ v : ι → EReal, ∀ i, (if P i then w i else 0) = v i := ⟨_, fun _ => rfl⟩
  simp only [hd] at hv ⊢
  have split : ∀ i, v i * (∑ k, x i k * u k + b) = v i * (∑ k, x i k * u k) + v i * b := fun i => by
    obtain ⟨r, hr, er⟩ := hv i
    rw [er]
    exact EReal.left_distrib_of_nonneg_of_ne_top (by exact_mod_cast hr) (EReal.coe_ne_top r) _ _
  simp only [split]
  rw [Finset.sum_add_distrib, sum_mul_nonneg v hv b]
  congr 1
  choose v' _ hv' using hv
  choose x' hx' using hx
  choose u' hu' using hu
  simp only [hv', hx', hu', ← EReal.coe_mul, ← coe_sum]
  congr 1
  simp only [Finset.sum_mul, Finset.mul_sum]
  rw [Finset.sum_comm]
  exact Finset.sum_congr rfl fun i _ => Finset.sum_congr rfl fun k _ => mul_assoc _ _ _

end Cert.Math
-- ==== Proof.KI.Closed.lean ====
/- The kernel's result in terms of the arguments alone: the padded rows belong to no segment, so that every maximum and
   every sum over the padded rows is one over the rows. -/
module

public import proofs.«01_k».proof.Proof.KI.Host
public import proofs.«01_k».proof.Proof.KI.Val0
public import proofs.«01_k».proof.Proof.KI.Val1
public import proofs.«01_k».proof.Proof.KI.Val2
public import proofs.«01_k».proof.Proof.Math

@[expose] public section

set_option maxRecDepth 16384

noncomputable section

namespace Cert.KernelIdeal.Run

open Cert.KernelIdeal Cert.KernelIdeal.Gen
open Idealize.ShloMosaic Idealize.ShloMosaic.TcCoe Idealize.ShloMosaic.Pointwise
open Cert.Consts Cert.Rows
open Cert.KernelIdeal.R1 (tab)

/-! ## Padded rows -/

/-- Row `i` among the padded rows. -/
def up (i : Fin 100000) : Fin 100352 := ⟨i.val, by omega⟩

theorem up_surj (r : Fin 100352) (h : r.val < 100000) : ∃ i, up i = r := ⟨⟨r.val, h⟩, rfl⟩

theorem sum_pad (f : Fin 100352 → EReal) (h : ∀ r, 100000 ≤ r.val → f r = 0) : ∑ r, f r = ∑ i, f (up i) := by
  have := Fin.sum_univ_add (a := 100000) (b := 352) (fun r : Fin (100000 + 352) => f r)
  refine this.trans ?_
  rw [Finset.sum_eq_zero (s := (Finset.univ : Finset (Fin 352))) (fun r _ => h _ (by simp)), add_zero]
  rfl

theorem sup_pad (f : Fin 100352 → EReal) (h : ∀ r, 100000 ≤ r.val → f r = ⊥) : Finset.univ.sup f = Finset.univ.sup fun i => f (up i) := by
  refine le_antisymm (Finset.sup_le fun r _ => ?_) (Finset.sup_le fun i _ => Finset.le_sup (f := f) (Finset.mem_univ _))
  by_cases hr : r.val < 100000
  · obtain ⟨i, rfl⟩ := up_surj r hr
    exact Finset.le_sup (f := fun i => f (up i)) (Finset.mem_univ i)
  · rw [h r (by omega)]; exact bot_le

/-! ## The arguments -/

variable (m : (ℓ : Loc nD τ sig) → Buf (Elt Ideal) ℓ) (c : Dev nD)

def argX : FVec Ideal S100000x128 .f32 := m (c, main_arg0)
def argI : IVec S100000 32 := m (c, main_arg1)
def argWg : FVec Ideal S128x1 .f32 := m (c, main_arg2)
def argBg : FVec Ideal S1 .f32 := m (c, main_arg3)
def argWm : FVec Ideal S128x128 .f32 := m (c, main_arg4)
def argBm : FVec Ideal S128 .f32 := m (c, main_arg5)

/-- Row `i` belongs to segment `s`. -/
def mem (idx : IVec S100000 32) (s : ℕ) (i : Fin 100000) : Prop := (idx (ix1 i)).toInt = (s : ℤ)

instance (idx : IVec S100000 32) (s : ℕ) : DecidablePred (mem idx s) := fun i => inferInstanceAs (Decidable (_ = _))

/-- The gate of row `i`. -/
def gateOf (x : FVec Ideal S100000x128 .f32) (wg : FVec Ideal S128x1 .f32) (bg : FVec Ideal S1 .f32) (i : Fin 100000) : EReal :=
  ∑ k : Fin 128, x (ix2 i k) * wg (ix2 k 0) + bg (ix1 0)

theorem hit (s : ℕ) (i : Fin 100000) :
    (W5 m c main_v3 : FVec Ideal S100352x1 .f32) (ix2 (up i) 0) = ((s : ℕ) : EReal) ↔ mem (argI m c) s i := by
  rw [W5_words]
  refine (Eq.congr_left (pad_words_in (m (c, main_arg1)) i)).trans ?_
  rw [← EReal.coe_natCast, EReal.coe_eq_coe_iff]
  exact_mod_cast Iff.rfl

theorem miss (s : ℕ) (r : Fin 100352) (h : 100000 ≤ r.val) :
    ¬(W5 m c main_v3 : FVec Ideal S100352x1 .f32) (ix2 r 0) = ((s : ℕ) : EReal) := by
  rw [W5_words]
  refine (not_congr (Eq.congr_left (pad_words_out (m (c, main_arg1)) r h))).2 ?_
  rw [← EReal.coe_natCast, EReal.coe_eq_coe_iff]
  intro e
  have : (-1 : ℤ) = (s : ℤ) := by exact_mod_cast e
  omega

theorem row_at (i : Fin 100000) (k : Fin 128) :
    (W5 m c main_v0 : FVec Ideal S100352x128 .f32) (ix2 (up i) k) = argX m c (ix2 i k) := by
  rw [W5_rows]
  exact pad_rows_in _ i k

/-- The gates of the rows, from the arguments. -/
def gs : Fin 100000 → EReal := gateOf (argX m c) (argWg m c) (argBg m c)

theorem gates_up (i : Fin 100000) : R0.gates (W5 m) c (up i) = gs m c i := by
  unfold R0.gates R0.gateR gs gateOf
  refine congrArg₂ (· + ·) (Finset.sum_congr rfl fun k _ => ?_) ?_
  · rw [row_at, W5_wg]; rfl
  · rw [W5_bg]; exact bg_row _

theorem maxR_eq (s : ℕ) : R0.maxR (W5 m c main_v3) (R0.gates (W5 m) c) s = Math.top (mem (argI m c) s) (gs m c) := by
  unfold R0.maxR Math.top
  rw [sup_pad _ fun r h => if_neg (miss m c s r h)]
  refine congrArg (Finset.sup _) (funext fun i => ?_)
  rw [gates_up]
  by_cases h : mem (argI m c) s i
  · rw [if_pos h, if_pos ((hit m c s i).2 h)]
  · rw [if_neg h, if_neg fun e => h ((hit m c s i).1 e)]

/-! ## The tables, picked by a segment -/

theorem pick_seg (T : Vec Ideal S8x128 .f32) (f : ℕ → EReal) (h : T = fun i : S8x128.Idx => f (R0.seg i)) (s : Fin 1024) :
    pick (tab T) ((s.val : ℕ) : EReal) = f s.val := by
  rw [pick_hit (tab T) ⟨s.val / 128, by omega⟩ ⟨s.val % 128, by omega⟩ s.val (by simp only; omega), h]
  unfold tab R0.seg
  simp only [ix2_0, ix2_1]
  congr 1
  omega

theorem gmax_pick (s : Fin 1024) : pick (tab (W6 m c main_v6_1)) ((s.val : ℕ) : EReal) = Math.top (mem (argI m c) s.val) (gs m c) :=
  (pick_seg _ _ ((W6_gmax m c).trans (R0.gmax_arr (W5 m) c)) s).trans (maxR_eq m c s.val)

theorem W6_words : W6 m c main_v3 = W5 m c main_v3 := W6_keeps m c main_v3 (by decide)

theorem gate_up (i : Fin 100000) : (W6 m c main_v6_0 : FVec Ideal S100352x1 .f32) (ix2 (up i) 0) = gs m c i := by
  rw [W6_gate, R0.gate_arr]
  exact gates_up m c i

theorem exps_up (s : Fin 1024) (i : Fin 100000) (h : mem (argI m c) s.val i) :
    R1.exps (W6 m) c (up i) = Math.ex (mem (argI m c) s.val) (gs m c) i := by
  unfold R1.exps R1.expR Math.ex
  rw [gate_up, W6_words, (hit m c s.val i).2 h, gmax_pick]

theorem sumR_eq (s : Fin 1024) : R1.sumR (W6 m c main_v3) (R1.exps (W6 m) c) s.val = Math.tot (mem (argI m c) s.val) (gs m c) := by
  unfold R1.sumR Math.tot
  rw [W6_words, sum_pad _ fun r h => if_neg (miss m c s.val r h)]
  refine Finset.sum_congr rfl fun i _ => ?_
  by_cases h : mem (argI m c) s.val i
  · rw [if_pos h, if_pos ((hit m c s.val i).2 h), exps_up m c s i h]
  · rw [if_neg h, if_neg fun e => h ((hit m c s.val i).1 e)]

theorem gsum_pick (s : Fin 1024) : pick (tab (W7 m c main_v7)) ((s.val : ℕ) : EReal) = Math.tot (mem (argI m c) s.val) (gs m c) :=
  (pick_seg _ _ ((W7_gsum m c).trans (R1.gsum_arr (W6 m) c)) s).trans (sumR_eq m c s)

/-! ## The weights and the result -/

theorem W7_words : W7 m c main_v3 = W5 m c main_v3 := (W7_keeps m c main_v3 (by decide)).trans (W6_words m c)
theorem W7_gate : W7 m c main_v6_0 = W6 m c main_v6_0 := W7_keeps m c main_v6_0 (by decide)
theorem W7_gmax : W7 m c main_v6_1 = W6 m c main_v6_1 := W7_keeps m c main_v6_1 (by decide)
theorem W7_rows : W7 m c main_v0 = W5 m c main_v0 := (W7_keeps m c main_v0 (by decide)).trans (W6_keeps m c main_v0 (by decide))
theorem W7_wm : W7 m c main_arg4 = m (c, main_arg4) :=
  (W7_keeps m c main_arg4 (by decide)).trans <| (W6_keeps m c main_arg4 (by decide)).trans (W5_wm m c)
theorem W7_bm : W7 m c main_v5 = W5 m c main_v5 := (W7_keeps m c main_v5 (by decide)).trans (W6_keeps m c main_v5 (by decide))

/-- The weight of row `i` in segment `s`. -/
def wts (s : ℕ) (i : Fin 100000) : EReal := Math.wt (mem (argI m c) s) eps (gs m c) i

theorem weights_up (s : Fin 1024) (i : Fin 100000) (h : mem (argI m c) s.val i) : R2.weights (W7 m) c (up i) = wts m c s.val i := by
  unfold R2.weights R2.wR wts Math.wt Math.ex
  rw [W7_gate, gate_up, W7_words, (hit m c s.val i).2 h, W7_gmax, gmax_pick, gsum_pick]

theorem member_weight (s : Fin 1024) (i : Fin 100000) :
    (if (W7 m c main_v3 : FVec Ideal S100352x1 .f32) (ix2 (up i) 0) = ((s.val : ℕ) : EReal) then R2.weights (W7 m) c (up i) else 0)
      = if mem (argI m c) s.val i then wts m c s.val i else 0 := by
  rw [W7_words]
  by_cases h : mem (argI m c) s.val i
  · rw [if_pos h, if_pos ((hit m c s.val i).2 h), weights_up m c s i h]
  · rw [if_neg h, if_neg fun e => h ((hit m c s.val i).1 e)]

theorem no_weight (s : Fin 1024) (r : Fin 100352) (h : 100000 ≤ r.val) :
    (if (W7 m c main_v3 : FVec Ideal S100352x1 .f32) (ix2 r 0) = ((s.val : ℕ) : EReal) then R2.weights (W7 m) c r else 0) = 0 := by
  rw [W7_words]
  exact if_neg (miss m c s.val r h)

theorem accR_eq (s : Fin 1024) (k : Fin 128) : R2.accR (W7 m c main_v3) (R2.weights (W7 m) c) (W7 m c main_v0) s.val k
    = ∑ i, (if mem (argI m c) s.val i then wts m c s.val i else 0) * argX m c (ix2 i k) := by
  unfold R2.accR
  rw [sum_pad _ fun r h => by rw [no_weight m c s r h, zero_mul]]
  refine Finset.sum_congr rfl fun i _ => ?_
  rw [member_weight, W7_rows, row_at]

theorem swR_eq (s : Fin 1024) : R2.swR (W7 m c main_v3) (R2.weights (W7 m) c) s.val
    = ∑ i, if mem (argI m c) s.val i then wts m c s.val i else 0 := by
  unfold R2.swR
  rw [sum_pad _ fun r h => no_weight m c s r h]
  exact Finset.sum_congr rfl fun i _ => member_weight m c s i

/-- The kernel's result: the projection of every segment's weighted sum, plus the sum of its weights times the bias. -/
theorem out_closed (s : Fin 1024) (d : Fin 128) :
    ((R2.dats (W7 m) c).arrAt 7 cfg2.N : FVec Ideal S1024x128 .f32) (ix2 s d)
      = ∑ k : Fin 128, (∑ i, (if mem (argI m c) s.val i then wts m c s.val i else 0) * argX m c (ix2 i k)) * argWm m c (ix2 k d)
        + (∑ i, if mem (argI m c) s.val i then wts m c s.val i else 0) * argBm m c (ix1 d) := by
  rw [R2.out_arr]
  simp only [ix2_0, ix2_1]
  refine congrArg₂ (· + ·) (Finset.sum_congr rfl fun k _ => ?_) ?_
  · rw [accR_eq, W7_wm]; rfl
  · rw [swR_eq, W7_bm, W5_bm]
    exact congrArg _ (bm_row _ d)

end Cert.KernelIdeal.Run
-- ==== Proof.RefOps.lean ====
/- The reference's accumulating scatter of rows, read at an index. -/
module

public import proofs.«01_k».proof.Proof.Gen.ReferenceIdeal.Run
public import Idealize.ShloMosaic.Lib.Pointwise
public import Idealize.ShloMosaic.Lib.Routing.Ops

@[expose] public section

set_option maxRecDepth 16384

noncomputable section

namespace Cert.RefOps
open Idealize.ShloMosaic Idealize.ShloMosaic.TcCoe

/-- Where update `(i, b)` of a scatter of rows lands: at row `x` and column `y` exactly when its index is `x` and `b` is `y`. -/
theorem rows_land {R N B : ℕ} (d : ScatterDims ⟨2, ![R, B]⟩ ⟨2, ![N, 1]⟩ ⟨2, ![N, B]⟩) (huw : d.updateWindowDims = [1])
    (hiw : d.insertedWindowDims = [0]) (hsd : d.scatterDimsToOperandDims = [0]) (hivd : d.indexVectorDim = 1)
    (idx : IVec ⟨2, ![N, 1]⟩ 32) (i : Fin N) (b y : Fin B) (x : Fin R) :
    d.resultIdx? (ix2 i b) idx = some (ix2 x y) ↔ (idx (ix2 i (0 : Fin 1))).toInt = (x.val : ℤ) ∧ b = y := by
  obtain ⟨uw, iw, sd, iv, wf⟩ := d
  dsimp only at huw hiw hsd hivd
  subst huw hiw hsd hivd
  have hs0 : (ScatterDims.mk [1] [0] [0] 1 wf).start (ix2 i b) idx 0 = (idx (ix2 i (0 : Fin 1))).toInt := by
    unfold ScatterDims.start
    rw [dif_pos (List.mem_singleton.2 rfl)]
    congr 2
    funext a
    match a with
    | ⟨0, _⟩ => rfl
    | ⟨1, _⟩ => rfl
  have hs1 : (ScatterDims.mk [1] [0] [0] 1 wf).start (ix2 i b) idx 1 = 0 := by
    unfold ScatterDims.start
    rw [dif_neg fun h => absurd (List.mem_singleton.1 h) (by decide : (1 : Fin 2) ≠ 0)]
  have hw0 : (ScatterDims.mk [1] [0] [0] 1 wf).window (ix2 i b) 0 = 0 := rfl
  have hw1 : (ScatterDims.mk [1] [0] [0] 1 wf).window (ix2 i b) 1 = b.val := rfl
  have hx := x.isLt
  have hb := b.isLt
  unfold ScatterDims.resultIdx?
  split
  · next h =>
    have h0 := h 0
    rw [hs0, hw0] at h0
    constructor
    · intro e
      have e0 := congrArg Fin.val (congrFun (Option.some.inj e) 0)
      have e1 := congrArg Fin.val (congrFun (Option.some.inj e) 1)
      dsimp only at e0 e1
      rw [hs0, hw0] at e0
      rw [hs1, hw1] at e1
      simp only [ix2_0, ix2_1] at e0 e1
      exact ⟨by omega, Fin.ext (by omega)⟩
    · rintro ⟨e, rfl⟩
      refine congrArg some (funext fun a => Fin.ext ?_)
      match a with
      | ⟨0, _⟩ =>
        show ((ScatterDims.mk [1] [0] [0] 1 wf).start (ix2 i b) idx 0 + ((ScatterDims.mk [1] [0] [0] 1 wf).window (ix2 i b) 0 : ℤ)).toNat = x.val
        rw [hs0, hw0]; omega
      | ⟨1, _⟩ =>
        show ((ScatterDims.mk [1] [0] [0] 1 wf).start (ix2 i b) idx 1 + ((ScatterDims.mk [1] [0] [0] 1 wf).window (ix2 i b) 1 : ℤ)).toNat = b.val
        rw [hs1, hw1]; omega
  · next h =>
    constructor
    · intro e; cases e
    · rintro ⟨e, rfl⟩
      refine (h fun a => ?_).elim
      match a with
      | ⟨0, _⟩ =>
        show 0 ≤ (ScatterDims.mk [1] [0] [0] 1 wf).start (ix2 i b) idx 0 + ((ScatterDims.mk [1] [0] [0] 1 wf).window (ix2 i b) 0 : ℤ) ∧ (ScatterDims.mk [1] [0] [0] 1 wf).start (ix2 i b) idx 0 + ((ScatterDims.mk [1] [0] [0] 1 wf).window (ix2 i b) 0 : ℤ) < (R : ℤ)
        rw [hs0, hw0]; omega
      | ⟨1, _⟩ =>
        show 0 ≤ (ScatterDims.mk [1] [0] [0] 1 wf).start (ix2 i b) idx 1 + ((ScatterDims.mk [1] [0] [0] 1 wf).window (ix2 i b) 1 : ℤ) ∧ (ScatterDims.mk [1] [0] [0] 1 wf).start (ix2 i b) idx 1 + ((ScatterDims.mk [1] [0] [0] 1 wf).window (ix2 i b) 1 : ℤ) < (B : ℤ)
        rw [hs1, hw1]; omega

/-- A scatter of rows that adds: at row `x` the operand's row and every update row whose index is `x`. -/
theorem scatter_rows {R N B : ℕ} (d : ScatterDims ⟨2, ![R, B]⟩ ⟨2, ![N, 1]⟩ ⟨2, ![N, B]⟩) (huw : d.updateWindowDims = [1])
    (hiw : d.insertedWindowDims = [0]) (hsd : d.scatterDimsToOperandDims = [0]) (hivd : d.indexVectorDim = 1)
    (v : FVec Ideal ⟨2, ![R, B]⟩ .f32) (idx : IVec ⟨2, ![N, 1]⟩ 32) (upd : FVec Ideal ⟨2, ![N, B]⟩ .f32) (x : Fin R) (y : Fin B) :
    Host.scatterAdd d v idx upd (ix2 x y)
      = v (ix2 x y) + ∑ i : Fin N, if (idx (ix2 i (0 : Fin 1))).toInt = (x.val : ℤ) then upd (ix2 i y) else (0 : EReal) := by
  change Ideal.hostScatterAdd d v idx upd (ix2 x y) = _
  unfold Ideal.hostScatterAdd
  congr 1
  rw [Finset.sum_filter, sum_idx2]
  refine Finset.sum_congr rfl fun i _ => ?_
  simp only [rows_land d huw hiw hsd hivd]
  by_cases h : (idx (ix2 i (0 : Fin 1))).toInt = (x.val : ℤ)
  · simp [h]
  · simp [h]

end Cert.RefOps

end
-- ==== Proof.Ref.lean ====
/- The reference's result, piece by piece: each intermediate array named and read at an index. -/
module

public import proofs.«01_k».proof.Proof.RefOps
public import proofs.«01_k».proof.Proof.Consts

@[expose] public section

set_option maxRecDepth 16384

noncomputable section

namespace Cert.Ref
open Cert.ReferenceIdeal Cert.ReferenceIdeal.Gen
open Idealize.ShloMosaic Idealize.ShloMosaic.TcCoe
open Cert.Consts

/-- The gate of every row: the row through the gate's weights, plus its bias. -/
def gate (x : FVec Ideal S100000x128 .f32) (wg : FVec Ideal S128x1 .f32) (bg : FVec Ideal S1 .f32) : FVec Ideal S100000x1 .f32 :=
  addf (Host.dotGeneral dot_S100000x128_S128x1_S100000x1_1_0_0_1_n_n none x wg) (broadcastInDim S100000x1 ![0, 1] bcast_S1x1_S100000x1_0_1 (broadcastInDim S1x1 ![1] bcast_S1_S1x1_1 bg))

/-- The greatest gate of every segment: the member rows' gates, every other row at −∞, reduced by maximum. -/
def gmax (idx : IVec S100000 32) (g : FVec Ideal S100000x1 .f32) : FVec Ideal S1024 .f32 :=
  Host.reduce FloatOps.maximumf (select (cmpi .eq (broadcastInDim S100000x1024 ![0, 1] bcast_S100000x1_S100000x1024_0_1 (broadcastInDim S100000x1 ![0] bcast_S100000_S100000x1_0 idx)) (broadcastInDim S100000x1024 ![0, 1] bcast_S1x1024_S100000x1024_0_1 (broadcastInDim S1x1024 ![1] bcast_S1024_S1x1024_1 (iotaInDim S1024 32 0)))) (broadcastInDim S100000x1024 ![0, 1] bcast_S100000x1_S100000x1024_0_1 g) (broadcastInDim S100000x1024 ![] bcast_S_S100000x1024 (id (constant S_ .f32 0xFF800000#32)))) (constant S_ .f32 0xFF800000#32) reducesTo_S100000x1024_S1024_d0 h_S_

/-- The index as a gather takes it: a negative index counts from the end. -/
def wrapped (idx : IVec S100000 32) : IVec S100000x1 32 :=
  broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 1024#32))) idx)

/-- The exponential of every row's gate less its segment's maximum. -/
def expo (idx : IVec S100000 32) (g : FVec Ideal S100000x1 .f32) (gm : FVec Ideal S1024 .f32) : FVec Ideal S100000x1 .f32 :=
  Host.exp (subf g (Host.gather gather_S1024x1_S100000x1_S100000x1_1_0_n_n_0_1_11 (broadcastInDim S1024x1 ![0] bcast_S1024_S1024x1_0 gm) (wrapped idx)))

/-- The sum of the exponentials of every segment. -/
def gsum (idx : IVec S100000 32) (e : FVec Ideal S100000x1 .f32) : FVec Ideal S1024x1 .f32 :=
  Host.scatterAdd scatter_S1024x1_S100000x1_S100000x1_1_0_0_1 (broadcastInDim S1024x1 ![] bcast_S_S1024x1 (constant S_ .f32 0x00000000#32)) (broadcastInDim S100000x1 ![0] bcast_S100000_S100000x1_0 idx) e

/-- Every row's exponential over its segment's sum. -/
def weight (idx : IVec S100000 32) (e : FVec Ideal S100000x1 .f32) (gs : FVec Ideal S1024x1 .f32) : FVec Ideal S100000x1 .f32 :=
  Host.divf e (addf (Host.gather gather_S1024x1_S100000x1_S100000x1_1_0_n_n_0_1_11 gs (wrapped idx)) (broadcastInDim S100000x1 ![] bcast_S_S100000x1 (constant S_ .f32 0x2EDBE6FF#32)))

/-- Every row's message, times its weight. -/
def weighted (x : FVec Ideal S100000x128 .f32) (wm : FVec Ideal S128x128 .f32) (bm : FVec Ideal S128 .f32) (w : FVec Ideal S100000x1 .f32) : FVec Ideal S100000x128 .f32 :=
  mulf (broadcastInDim S100000x128 ![0, 1] bcast_S100000x1_S100000x128_0_1 w) (addf (Host.dotGeneral dot_S100000x128_S128x128_S100000x128_1_0_0_1_n_n none x wm) (broadcastInDim S100000x128 ![0, 1] bcast_S1x128_S100000x128_0_1 (broadcastInDim S1x128 ![1] bcast_S128_S1x128_1 bm)))

/-- The result of the reference. -/
def result (x : FVec Ideal S100000x128 .f32) (idx : IVec S100000 32) (wg : FVec Ideal S128x1 .f32) (bg : FVec Ideal S1 .f32)
    (wm : FVec Ideal S128x128 .f32) (bm : FVec Ideal S128 .f32) : FVec Ideal S1024x128 .f32 :=
  Host.scatterAdd scatter_S1024x128_S100000x1_S100000x128_1_0_0_1 (broadcastInDim S1024x128 ![] bcast_S_S1024x128 (constant S_ .f32 0x00000000#32)) (broadcastInDim S100000x1 ![0] bcast_S100000_S100000x1_0 idx) (weighted x wm bm (weight idx (expo idx (gate x wg bg) (gmax idx (gate x wg bg))) (gsum idx (expo idx (gate x wg bg) (gmax idx (gate x wg bg))))))

theorem result_eq (m : (ℓ : Loc nD τ sig) → Buf (Elt Ideal) ℓ) (c : Dev nD) :
    Cert.ReferenceIdeal.Value.res_main_v43 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v43 result weighted weight gsum expo wrapped gmax gate
  rfl

theorem gate_apply (x : FVec Ideal S100000x128 .f32) (wg : FVec Ideal S128x1 .f32) (bg : FVec Ideal S1 .f32) (i : Fin 100000) (z : Fin 1) :
    gate x wg bg (ix2 i z) = ∑ k : Fin 128, x (ix2 i k) * wg (ix2 k 0) + bg (ix1 0) := by
  obtain rfl : z = 0 := Subsingleton.elim _ _
  pointwise [gate]

theorem toInt_eq (v : BitVec 32) (s : Fin 1024) : v.toInt = ((s.val : ℕ) : ℤ) ↔ v = BitVec.ofNat 32 s.val := by
  have hs := s.isLt
  rw [← BitVec.toInt_inj]
  have : (BitVec.ofNat 32 s.val).toInt = ((s.val : ℕ) : ℤ) := by
    rw [BitVec.toInt_eq_toNat_of_lt (by rw [BitVec.toNat_ofNat]; omega), BitVec.toNat_ofNat]
    omega
  rw [this]

theorem gmax_apply (idx : IVec S100000 32) (g : FVec Ideal S100000x1 .f32) (s : Fin 1024) :
    gmax idx g (ix1 s) = Finset.univ.sup fun i : Fin 100000 => if (idx (ix1 i)).toInt = ((s.val : ℕ) : ℤ) then (g (ix2 i 0) : EReal) else ⊥ := by
  pointwise [gmax]
  unfold Finset.sup
  rw [cbot]
  refine Finset.fold_congr fun i _ => ?_
  have hb : id (constant (F := Ideal) S_ FTy.f32 4286578688#32) ix0 = (⊥ : EReal) := cbot
  rw [hb]
  by_cases h : idx (ix1 i) = BitVec.ofNat 32 s.val
  · rw [if_pos ((toInt_eq _ s).2 h), h]
    simp [IntOp.cmpi, Scalar.select]
  · rw [if_neg fun e => h ((toInt_eq _ s).1 e)]
    have hf : (idx (ix1 i) == BitVec.ofNat 32 s.val) = false := beq_false_of_ne h
    simp only [IntOp.cmpi, Scalar.select, hf]
    exact if_neg (by decide)

theorem wrapped_apply (idx : IVec S100000 32) (i : Fin 100000) (s : Fin 1024) (h : (idx (ix1 i)).toInt = ((s.val : ℕ) : ℤ)) :
    wrapped idx (ix2 i 0) = BitVec.ofNat 32 s.val := by
  pointwise [wrapped]
  have hs := s.isLt
  have hn : (idx (ix1 i)).slt 0#32 = false := by
    rw [BitVec.slt_eq_decide, h]
    simp
  rw [(toInt_eq _ s).1 h] at hn ⊢
  simp [IntOp.cmpi, Scalar.select, hn]

theorem gather_apply (idx : IVec S100000 32) (T : FVec Ideal S1024x1 .f32) (i : Fin 100000) (s : Fin 1024)
    (h : (idx (ix1 i)).toInt = ((s.val : ℕ) : ℤ)) :
    Host.gather gather_S1024x1_S100000x1_S100000x1_1_0_n_n_0_1_11 T (wrapped idx) (ix2 i 0) = T (ix2 s 0) :=
  Routing.gather_row _ rfl rfl rfl rfl rfl T (wrapped idx) i 0 s (wrapped_apply idx i s h) (by decide)

theorem expo_apply (idx : IVec S100000 32) (g : FVec Ideal S100000x1 .f32) (gm : FVec Ideal S1024 .f32) (i : Fin 100000) (s : Fin 1024)
    (h : (idx (ix1 i)).toInt = ((s.val : ℕ) : ℤ)) : expo idx g gm (ix2 i 0) = Ideal.exp (g (ix2 i 0) - gm (ix1 s)) := by
  unfold expo
  refine congrArg (fun v : EReal => Ideal.exp (g (ix2 i 0) - v)) ((gather_apply idx _ i s h).trans ?_)
  pointwise

theorem gsum_apply (idx : IVec S100000 32) (e : FVec Ideal S100000x1 .f32) (s : Fin 1024) :
    gsum idx e (ix2 s 0) = ∑ i : Fin 100000, if (idx (ix1 i)).toInt = ((s.val : ℕ) : ℤ) then e (ix2 i 0) else (0 : EReal) := by
  unfold gsum
  rw [RefOps.scatter_rows _ rfl rfl rfl rfl]
  pointwise

theorem weight_apply (idx : IVec S100000 32) (e : FVec Ideal S100000x1 .f32) (gs : FVec Ideal S1024x1 .f32) (i : Fin 100000) (s : Fin 1024)
    (h : (idx (ix1 i)).toInt = ((s.val : ℕ) : ℤ)) : weight idx e gs (ix2 i 0) = Ideal.div (e (ix2 i 0)) (gs (ix2 s 0) + eps) := by
  unfold weight
  refine congrArg (fun v : EReal => Ideal.div (e (ix2 i 0)) (v + eps)) (gather_apply idx _ i s h)

theorem weighted_apply (x : FVec Ideal S100000x128 .f32) (wm : FVec Ideal S128x128 .f32) (bm : FVec Ideal S128 .f32) (w : FVec Ideal S100000x1 .f32)
    (i : Fin 100000) (d : Fin 128) :
    weighted x wm bm w (ix2 i d) = w (ix2 i 0) * (∑ k : Fin 128, x (ix2 i k) * wm (ix2 k d) + bm (ix1 d)) := by
  pointwise [weighted]

theorem result_apply (x : FVec Ideal S100000x128 .f32) (idx : IVec S100000 32) (wg : FVec Ideal S128x1 .f32) (bg : FVec Ideal S1 .f32)
    (wm : FVec Ideal S128x128 .f32) (bm : FVec Ideal S128 .f32) (s : Fin 1024) (d : Fin 128) :
    result x idx wg bg wm bm (ix2 s d) = ∑ i : Fin 100000, if (idx (ix1 i)).toInt = ((s.val : ℕ) : ℤ) then
      weight idx (expo idx (gate x wg bg) (gmax idx (gate x wg bg))) (gsum idx (expo idx (gate x wg bg) (gmax idx (gate x wg bg)))) (ix2 i 0)
        * (∑ k : Fin 128, x (ix2 i k) * wm (ix2 k d) + bm (ix1 d)) else (0 : EReal) := by
  unfold result
  rw [RefOps.scatter_rows _ rfl rfl rfl rfl]
  simp only [weighted_apply]
  pointwise

end Cert.Ref

end
-- ==== Proof.Pre.lean ====
/- The precondition, read: every entry of the rows and of the projection is a real. -/
module

public import proofs.«01_k».proof.Pre_finite
public import proofs.«01_k».proof.Proof.Consts
public import Idealize.ShloMosaic.Lib.ReduceAll

@[expose] public section

noncomputable section

namespace Cert.Pre
open Idealize.ShloMosaic Cert.Pre_finite

/-- A value whose absolute value compares less than +∞ is a real. -/
theorem real_of_lt (y : EReal) (h : Ideal.cmp .olt (max y (-y)) (Ideal.ofBits .f32 0x7F800000#32) = 1#1) : ∃ r : ℝ, y = (r : EReal) := by
  rw [Consts.ctop] at h
  induction y using EReal.rec with
  | bot => simp [Ideal.cmp] at h
  | top => simp [Ideal.cmp] at h
  | coe r => exact ⟨r, rfl⟩

variable [Facts]

theorem reals (x : FVec Ideal S100000x128 .f32) (idx : IVec S100000 32) (wg : FVec Ideal S128x1 .f32) (bg : FVec Ideal S1 .f32)
    (wm : FVec Ideal S128x128 .f32) (bm : FVec Ideal S128 .f32) (h : fn (F := Ideal) x idx wg bg wm bm = fun _ => 1#1) :
    (∀ i, ∃ r : ℝ, x i = (r : EReal)) ∧ (∀ i, ∃ r : ℝ, wm i = (r : EReal)) := by
  dsimp only [fn] at h
  have h0 := congrFun h (fun a => a.elim0)
  obtain ⟨h1, h2⟩ := IntOp.andi_eq_one.1 h0
  haveI : Subsingleton S_.Idx := ⟨fun a b => funext fun k => k.elim0⟩
  exact ⟨fun i => real_of_lt _ (Host.reduce_andi_all _ _ _ _ _ h1 i), fun i => real_of_lt _ (Host.reduce_andi_all _ _ _ _ _ h2 i)⟩

end Cert.Pre

end
-- ==== Proof.Algebraic.lean ====
/- The kernel's result is the reference's: both are the pooled rows of every segment, projected before or after the
   weighted sum. -/
module

public import proofs.«01_k».proof.Defs
public import proofs.«01_k».proof.Proof.KI.Closed
public import proofs.«01_k».proof.Proof.Ref
public import proofs.«01_k».proof.Proof.Pre
public import proofs.«01_k».proof.Proof.Gen.Pre_finite

@[expose] public section

set_option maxRecDepth 16384

noncomputable section

namespace Cert.Algebraic
open Idealize.ShloMosaic Idealize.ShloMosaic.TcCoe Idealize.ShloMosaic.Pointwise Idealize.SL.Sem
open Cert.KernelIdeal.Run (mem gateOf)
open Cert.KernelIdeal (S100000x128 S100000 S128x1 S1 S128x128 S128 S1024x128)

/-- The reference's weight of a member row. -/
theorem ref_weight (x : FVec Ideal S100000x128 .f32) (idx : IVec S100000 32) (wg : FVec Ideal S128x1 .f32) (bg : FVec Ideal S1 .f32)
    (s : Fin 1024) (i : Fin 100000) (h : mem idx s.val i) :
    Ref.weight idx (Ref.expo idx (Ref.gate x wg bg) (Ref.gmax idx (Ref.gate x wg bg)))
      (Ref.gsum idx (Ref.expo idx (Ref.gate x wg bg) (Ref.gmax idx (Ref.gate x wg bg)))) (ix2 i 0)
      = Math.wt (mem idx s.val) Consts.eps (gateOf x wg bg) i := by
  have hm : Ref.gmax idx (Ref.gate x wg bg) (ix1 s) = Math.top (mem idx s.val) (gateOf x wg bg) := by
    rw [Ref.gmax_apply]
    refine congrArg (Finset.sup _) (funext fun j => ?_)
    rw [Ref.gate_apply]
    rfl
  have he : ∀ j, mem idx s.val j → Ref.expo idx (Ref.gate x wg bg) (Ref.gmax idx (Ref.gate x wg bg)) (ix2 j 0)
      = Math.ex (mem idx s.val) (gateOf x wg bg) j := fun j hj => by
    rw [Ref.expo_apply idx _ _ j s hj, hm, Ref.gate_apply]
    rfl
  rw [Ref.weight_apply idx _ _ i s h, he i h, Ref.gsum_apply]
  unfold Math.wt Math.tot
  refine congrArg (fun z : EReal => Ideal.div (Math.ex (mem idx s.val) (gateOf x wg bg) i) (z + Consts.eps)) ?_
  refine Finset.sum_congr rfl fun j _ => ?_
  by_cases hj : mem idx s.val j
  · rw [if_pos hj, ← he j hj]; exact if_pos hj
  · rw [if_neg hj]; exact if_neg hj

/-- The reference's result at an index. -/
theorem ref_closed (x : FVec Ideal S100000x128 .f32) (idx : IVec S100000 32) (wg : FVec Ideal S128x1 .f32) (bg : FVec Ideal S1 .f32)
    (wm : FVec Ideal S128x128 .f32) (bm : FVec Ideal S128 .f32) (s : Fin 1024) (d : Fin 128) :
    Ref.result x idx wg bg wm bm (ix2 s d) = ∑ i : Fin 100000, if mem idx s.val i then
      Math.wt (mem idx s.val) Consts.eps (gateOf x wg bg) i * (∑ k : Fin 128, x (ix2 i k) * wm (ix2 k d) + bm (ix1 d)) else (0 : EReal) := by
  rw [Ref.result_apply]
  refine Finset.sum_congr rfl fun i _ => ?_
  by_cases h : mem idx s.val i
  · rw [if_pos h, ← ref_weight x idx wg bg s i h]; exact if_pos h
  · rw [if_neg h]; exact if_neg h

open Cert.KernelIdeal Cert.KernelIdeal.Run in
/-- The kernel's result array is the reference's function of the arguments. -/
theorem out_eq (m : (ℓ : Loc nD τ sig) → Buf (Elt Ideal) ℓ) (c : Dev nD)
    (hx : ∀ i, ∃ r : ℝ, argX m c i = (r : EReal)) (hw : ∀ i, ∃ r : ℝ, argWm m c i = (r : EReal)) :
    ((R2.dats (W7 m) c).arrAt 7 cfg2.N : FVec Ideal S1024x128 .f32)
      = Ref.result (argX m c) (argI m c) (argWg m c) (argBg m c) (argWm m c) (argBm m c) := by
  have key : ∀ (s : Fin 1024) (d : Fin 128), ((R2.dats (W7 m) c).arrAt 7 cfg2.N : FVec Ideal S1024x128 .f32) (ix2 s d)
      = Ref.result (argX m c) (argI m c) (argWg m c) (argBg m c) (argWm m c) (argBm m c) (ix2 s d) := fun s d => by
    rw [ref_closed]
    refine (out_closed m c s d).trans ?_
    exact Math.pool_project (mem (argI m c) s.val) (wts m c s.val)
      (fun i h => Math.wt_nonneg _ Consts.eps_pos _ i h) (fun i k => argX m c (ix2 i k)) (fun k => argWm m c (ix2 k d)) (argBm m c (ix1 d))
      (fun i k => hx _) (fun k => hw _)
  refine funext fun (j : S1024x128.Idx) => ?_
  have e : j = ix2 (n0 := 1024) (n1 := 128) (j 0) (j 1) := by blk_ext
  rw [e]
  exact key (j 0) (j 1)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => (KernelIdeal.R2.dats (KernelIdeal.Run.W7 m) c).arrAt 7 KernelIdeal.cfg2.N,
    (θ_run _ _ _).mono (fun _ h c => h.1 c) (Cert.KernelIdeal.Run.run m ρ),
    (θ_run _ _ _).mono (fun _ h c => ⟨(h c).1.trans ?_, (h c).2⟩) (Cert.ReferenceIdeal.Value.run m' ρ')⟩
  obtain ⟨h0, h1, h2, h3, h4, h5⟩ := hagree c
  obtain ⟨hx, hw⟩ := Pre.reals _ _ _ _ _ _ (hpre c)
  rw [Ref.result_eq, h0, h1, h2, h3, h4, h5]
  exact (out_eq m c hx hw).symm

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Cert.Frames.frame_p, Cert.Frames.frame_pi, fun m ρ _ => Cert.Frames.frame_pi m ρ trivial, Cert.Frames.frame_ri,
  fun m ρ _ => Cert.Frames.frame_ri m ρ trivial, Cert.Frames.preserves, Cert.Algebraic.algebraic⟩

end Cert.Proof

end
